-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x255x64x64 : Shape := ⟨4, ![32, 255, 64, 64]⟩
abbrev S3x2 : Shape := ⟨2, ![3, 2]⟩
abbrev S32x64x64x255 : Shape := ⟨4, ![32, 64, 64, 255]⟩
abbrev S32x4096x255 : Shape := ⟨3, ![32, 4096, 255]⟩
abbrev S_ : Shape := ⟨0, ![]⟩
abbrev S3x85 : Shape := ⟨2, ![3, 85]⟩
abbrev S1 : Shape := ⟨1, ![1]⟩
abbrev S3 : Shape := ⟨1, ![3]⟩
abbrev S1x3x85 : Shape := ⟨3, ![1, 3, 85]⟩
abbrev S6x3x85 : Shape := ⟨3, ![6, 3, 85]⟩
abbrev S6x1x255 : Shape := ⟨3, ![6, 1, 255]⟩
abbrev S85x32x12288 : Shape := ⟨3, ![85, 32, 12288]⟩
abbrev S85x16x512 : Shape := ⟨3, ![85, 16, 512]⟩
abbrev S2x16x512x255 : Shape := ⟨4, ![2, 16, 512, 255]⟩
abbrev S512x85 : Shape := ⟨2, ![512, 85]⟩
abbrev S2 : Shape := ⟨1, ![2]⟩
abbrev S1x16x512x255 : Shape := ⟨4, ![1, 16, 512, 255]⟩
abbrev S16x512x255 : Shape := ⟨3, ![16, 512, 255]⟩
abbrev S1x1x85 : Shape := ⟨3, ![1, 1, 85]⟩
abbrev S1x85 : Shape := ⟨2, ![1, 85]⟩
abbrev S512x1 : Shape := ⟨2, ![512, 1]⟩
abbrev S1x512x85 : Shape := ⟨3, ![1, 512, 85]⟩
abbrev S85x512 : Shape := ⟨2, ![85, 512]⟩
abbrev S85x1x512 : Shape := ⟨3, ![85, 1, 512]⟩
abbrev S32x12288x85 : Shape := ⟨3, ![32, 12288, 85]⟩

abbrev nBuf : Space → Nat
  | .hbm => 58
  | .vmem => 5
  | .smem => 0
  | _ => 0

abbrev bufTy : (tb : Table) → Fin (tcTables nBuf tb) → BufTy
  | .hbm, ⟨0, _⟩ => ⟨S32x255x64x64, .f32⟩
  | .hbm, ⟨1, _⟩ => ⟨S3x2, .f32⟩
  | .hbm, ⟨2, _⟩ => ⟨S32x64x64x255, .f32⟩
  | .hbm, ⟨3, _⟩ => ⟨S32x4096x255, .f32⟩
  | .hbm, ⟨4, _⟩ => ⟨S_, .f32⟩
  | .hbm, ⟨5, _⟩ => ⟨S3x85, .f32⟩
  | .hbm, ⟨6, _⟩ => ⟨S_, .i32⟩
  | .hbm, ⟨7, _⟩ => ⟨S1, .i32⟩
  | .hbm, ⟨8, _⟩ => ⟨S_, .f32⟩
  | .hbm, ⟨9, _⟩ => ⟨S3x2, .f32⟩
  | .hbm, ⟨10, _⟩ => ⟨S3x85, .f32⟩
  | .hbm, ⟨11, _⟩ => ⟨S_, .f32⟩
  | .hbm, ⟨12, _⟩ => ⟨S3x85, .f32⟩
  | .hbm, ⟨13, _⟩ => ⟨S3x85, .f32⟩
  | .hbm, ⟨14, _⟩ => ⟨S_, .f32⟩
  | .hbm, ⟨15, _⟩ => ⟨S3x85, .f32⟩
  | .hbm, ⟨16, _⟩ => ⟨S3x85, .f32⟩
  | .hbm, ⟨17, _⟩ => ⟨S_, .f32⟩
  | .hbm, ⟨18, _⟩ => ⟨S3x85, .f32⟩
  | .hbm, ⟨19, _⟩ => ⟨S_, .i32⟩
  | .hbm, ⟨20, _⟩ => ⟨S1, .i32⟩
  | .hbm, ⟨21, _⟩ => ⟨S_, .f32⟩
  | .hbm, ⟨22, _⟩ => ⟨S3x2, .f32⟩
  | .hbm, ⟨23, _⟩ => ⟨S3x85, .f32⟩
  | .hbm, ⟨24, _⟩ => ⟨S_, .i32⟩
  | .hbm, ⟨25, _⟩ => ⟨S1, .i32⟩
  | .hbm, ⟨26, _⟩ => ⟨S_, .f32⟩
  | .hbm, ⟨27, _⟩ => ⟨S3x2, .f32⟩
  | .hbm, ⟨28, _⟩ => ⟨S3x85, .f32⟩
  | .hbm, ⟨29, _⟩ => ⟨S_, .f32⟩
  | .hbm, ⟨30, _⟩ => ⟨S3x85, .f32⟩
  | .hbm, ⟨31, _⟩ => ⟨S_, .i32⟩
  | .hbm, ⟨32, _⟩ => ⟨S1, .i32⟩
  | .hbm, ⟨33, _⟩ => ⟨S3x85, .f32⟩
  | .hbm, ⟨34, _⟩ => ⟨S_, .f32⟩
  | .hbm, ⟨35, _⟩ => ⟨S3x85, .f32⟩
  | .hbm, ⟨36, _⟩ => ⟨S_, .i32⟩
  | .hbm, ⟨37, _⟩ => ⟨S1, .i32⟩
  | .hbm, ⟨38, _⟩ => ⟨S_, .f32⟩
  | .hbm, ⟨39, _⟩ => ⟨S3, .f32⟩
  | .hbm, ⟨40, _⟩ => ⟨S3x85, .f32⟩
  | .hbm, ⟨41, _⟩ => ⟨S_, .f32⟩
  | .hbm, ⟨42, _⟩ => ⟨S3x85, .f32⟩
  | .hbm, ⟨43, _⟩ => ⟨S_, .i32⟩
  | .hbm, ⟨44, _⟩ => ⟨S1, .i32⟩
  | .hbm, ⟨45, _⟩ => ⟨S_, .f32⟩
  | .hbm, ⟨46, _⟩ => ⟨S3, .f32⟩
  | .hbm, ⟨47, _⟩ => ⟨S3x85, .f32⟩
  | .hbm, ⟨48, _⟩ => ⟨S1x3x85, .f32⟩
  | .hbm, ⟨49, _⟩ => ⟨S1x3x85, .f32⟩
  | .hbm, ⟨50, _⟩ => ⟨S1x3x85, .f32⟩
  | .hbm, ⟨51, _⟩ => ⟨S1x3x85, .f32⟩
  | .hbm, ⟨52, _⟩ => ⟨S1x3x85, .f32⟩
  | .hbm, ⟨53, _⟩ => ⟨S1x3x85, .f32⟩
  | .hbm, ⟨54, _⟩ => ⟨S6x3x85, .f32⟩
  | .hbm, ⟨55, _⟩ => ⟨S6x1x255, .f32⟩
  | .hbm, ⟨56, _⟩ => ⟨S85x32x12288, .f32⟩
  | .hbm, ⟨57, _⟩ => ⟨S32x12288x85, .f32⟩
  | .local _ .vmem, ⟨0, _⟩ => ⟨S6x1x255, .f32⟩
  | .local _ .vmem, ⟨1, _⟩ => ⟨S85x16x512, .f32⟩
  | .local _ .vmem, ⟨2, _⟩ => ⟨S85x16x512, .f32⟩
  | .local _ .vmem, ⟨3, _⟩ => ⟨S2x16x512x255, .f32⟩
  | .local _ .vmem, ⟨4, _⟩ => ⟨S512x85, .f32⟩
  | _, _ => ⟨S32x255x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_c_4 : Ref sig .tc := ⟨.hbm, 19, rfl⟩
abbrev main_v11 : Ref sig .tc := ⟨.hbm, 20, rfl⟩
abbrev main_cst_5 : Ref sig .tc := ⟨.hbm, 21, rfl⟩
abbrev main_v12 : Ref sig .tc := ⟨.hbm, 22, rfl⟩
abbrev main_v13 : Ref sig .tc := ⟨.hbm, 23, rfl⟩
abbrev main_c_6 : Ref sig .tc := ⟨.hbm, 24, rfl⟩
abbrev main_v14 : Ref sig .tc := ⟨.hbm, 25, rfl⟩
abbrev main_cst_7 : Ref sig .tc := ⟨.hbm, 26, rfl⟩
abbrev main_v15 : Ref sig .tc := ⟨.hbm, 27, rfl⟩
abbrev main_v16 : Ref sig .tc := ⟨.hbm, 28, rfl⟩
abbrev main_cst_8 : Ref sig .tc := ⟨.hbm, 29, rfl⟩
abbrev main_v17 : Ref sig .tc := ⟨.hbm, 30, rfl⟩
abbrev main_c_9 : Ref sig .tc := ⟨.hbm, 31, rfl⟩
abbrev main_v18 : Ref sig .tc := ⟨.hbm, 32, rfl⟩
abbrev main_v19 : Ref sig .tc := ⟨.hbm, 33, rfl⟩
abbrev main_cst_10 : Ref sig .tc := ⟨.hbm, 34, rfl⟩
abbrev main_v20 : Ref sig .tc := ⟨.hbm, 35, rfl⟩
abbrev main_c_11 : Ref sig .tc := ⟨.hbm, 36, rfl⟩
abbrev main_v21 : Ref sig .tc := ⟨.hbm, 37, rfl⟩
abbrev main_cst_12 : Ref sig .tc := ⟨.hbm, 38, rfl⟩
abbrev main_v22 : Ref sig .tc := ⟨.hbm, 39, rfl⟩
abbrev main_v23 : Ref sig .tc := ⟨.hbm, 40, rfl⟩
abbrev main_cst_13 : Ref sig .tc := ⟨.hbm, 41, rfl⟩
abbrev main_v24 : Ref sig .tc := ⟨.hbm, 42, rfl⟩
abbrev main_c_14 : Ref sig .tc := ⟨.hbm, 43, rfl⟩
abbrev main_v25 : Ref sig .tc := ⟨.hbm, 44, rfl⟩
abbrev main_cst_15 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨3, ![2, 8, 3], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_1 : BitVec 32 := 0#32
  let v6 : BitVec 1 := Scalar.cmpi .ne v5 c0_i32_1
  v6

def k0_cond2 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_7 : BitVec 32 := 0#32
  let v16 : BitVec 1 := Scalar.cmpi .eq v1 c0_i32_7
  let v17 : BitVec 32 := Scalar.extui v16
  let c0_i32_8 : BitVec 32 := 0#32
  let v18 : BitVec 1 := Scalar.cmpi .ne v17 c0_i32_8
  v18

def k0_off1 : Fin 3 → Nat :=
  let c0_i32_33 : BitVec 32 := 0#32
  let c8_i32_34 : BitVec 32 := 8#32
  let v89 : BitVec 32 := Scalar.divsi c0_i32_33 c8_i32_34
  let c16_i32_37 : BitVec 32 := 16#32
  let v91 : BitVec 32 := Scalar.muli v89 c16_i32_37
  let c0_i32_35 : BitVec 32 := 0#32
  let c8_i32_36 : BitVec 32 := 8#32
  let v90 : BitVec 32 := Scalar.remsi c0_i32_35 c8_i32_36
  let c512_i32_38 : BitVec 32 := 512#32
  let v92 : BitVec 32 := Scalar.muli v90 c512_i32_38
  let c0_i32_44 : BitVec 32 := 0#32
  ![v91.toNat, v92.toNat, 0]
def k0_cond3 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_9 : BitVec 32 := 1#32
  let v19 : BitVec 32 := Scalar.addi v1 c1_i32_9
  let c16_i32 : BitVec 32 := 16#32
  let v20 : BitVec 1 := Scalar.cmpi .slt v19 c16_i32
  let v21 : BitVec 32 := Scalar.extui v20
  let c0_i32_10 : BitVec 32 := 0#32
  let v22 : BitVec 1 := Scalar.cmpi .ne v21 c0_i32_10
  v22

def k0_off2 (i : grid0.Coords) : Fin 1 → Nat :=
  let c1_i32_34 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v90 : BitVec 32 := Scalar.subi c1_i32_34 v2
  ![v90.toNat]
def k0_off3 (i : grid0.Coords) : Fin 4 → Nat :=
  let c1_i32_34 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v90 : BitVec 32 := Scalar.subi c1_i32_34 v2
  let c0_i32_39 : BitVec 32 := 0#32
  let c0_i32_40 : BitVec 32 := 0#32
  let c0_i32_41 : BitVec 32 := 0#32
  ![v90.toNat, 0, 0, 0]
def k0_off4 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_33 : BitVec 32 := 1#32
  let v89 : BitVec 32 := Scalar.addi v1 c1_i32_33
  let c8_i32_35 : BitVec 32 := 8#32
  let v91 : BitVec 32 := Scalar.divsi v89 c8_i32_35
  let c16_i32_37 : BitVec 32 := 16#32
  let v93 : BitVec 32 := Scalar.muli v91 c16_i32_37
  let c8_i32_36 : BitVec 32 := 8#32
  let v92 : BitVec 32 := Scalar.remsi v89 c8_i32_36
  let c512_i32_38 : BitVec 32 := 512#32
  let v94 : BitVec 32 := Scalar.muli v92 c512_i32_38
  let c0_i32_42 : BitVec 32 := 0#32
  ![v93.toNat, v94.toNat, 0]
def k0_off5 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off6 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_29 : BitVec 32 := 0#32
  let c0_i32_30 : BitVec 32 := 0#32
  let c0_i32_31 : BitVec 32 := 0#32
  ![v2.toNat, 0, 0, 0]
def k0_off7 (i : grid0.Coords) : Fin 3 → Nat :=
  let arg0 : BitVec 32 := BitVec.ofNat 32 (i 0).val
  let c16_i32_28 : BitVec 32 := 16#32
  let v82 : BitVec 32 := Scalar.muli arg0 c16_i32_28
  let arg1 : BitVec 32 := BitVec.ofNat 32 (i 1).val
  let c512_i32 : BitVec 32 := 512#32
  let v83 : BitVec 32 := Scalar.muli arg1 c512_i32
  let c0_i32_32 : BitVec 32 := 0#32
  ![v82.toNat, v83.toNat, 0]
def k0_cond4 (i : grid0.Coords) : BitVec 1 :=
  let arg2 : BitVec 32 := BitVec.ofNat 32 (i 2).val
  let c0_i32_2 : BitVec 32 := 0#32
  let v7 : BitVec 1 := Scalar.cmpi .eq arg2 c0_i32_2
  let v8 : BitVec 32 := Scalar.extui v7
  let c0_i32_3 : BitVec 32 := 0#32
  let v9 : BitVec 1 := Scalar.cmpi .ne v8 c0_i32_3
  v9

def k0_off8 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_17 : BitVec 32 := 0#32
  let c0_i32_18 : BitVec 32 := 0#32
  let c0_i32_19 : BitVec 32 := 0#32
  ![v2.toNat, 0, 0, 0]
def k0_cond5 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_4 : BitVec 32 := 0#32
  let v12 : BitVec 1 := Scalar.cmpi .ne v11 c0_i32_4
  v12

def k0_off9 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_16 : BitVec 32 := 0#32
  let c0_i32_17 : BitVec 32 := 0#32
  let c0_i32_18 : BitVec 32 := 0#32
  ![v2.toNat, 0, 0, 0]
def k0_cond6 (i : grid0.Coords) : BitVec 1 :=
  let arg2 : BitVec 32 := BitVec.ofNat 32 (i 2).val
  let c2_i32_5 : BitVec 32 := 2#32
  let v13 : BitVec 1 := Scalar.cmpi .eq arg2 c2_i32_5
  let v14 : BitVec 32 := Scalar.extui v13
  let c0_i32_6 : BitVec 32 := 0#32
  let v15 : BitVec 1 := Scalar.cmpi .ne v14 c0_i32_6
  v15

def k0_off10 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_16 : BitVec 32 := 0#32
  let c0_i32_17 : BitVec 32 := 0#32
  let c0_i32_18 : BitVec 32 := 0#32
  ![v2.toNat, 0, 0, 0]
def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let v1 : BitVec 32 := Scalar.addi v0 arg1
  let c0_i32 : BitVec 32 := 0#32
  let c0_i32_0 : BitVec 32 := 0#32
  ![c0_i32.toNat, arg0.toNat, v1.toNat]

abbrev stage0_0 : Fin 1 → Memref sig .tc .vmem S6x1x255 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S85x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]
-- ==== ReferenceIdeal.lean ====
abbrev S32x255x64x64 : Shape := ⟨4, ![32, 255, 64, 64]⟩
abbrev S3x2 : Shape := ⟨2, ![3, 2]⟩
abbrev S32x3x85x64x64 : Shape := ⟨5, ![32, 3, 85, 64, 64]⟩
abbrev S32x3x64x64x85 : Shape := ⟨5, ![32, 3, 64, 64, 85]⟩
abbrev S64 : Shape := ⟨1, ![64]⟩
abbrev S64x64 : Shape := ⟨2, ![64, 64]⟩
abbrev S64x64x1 : Shape := ⟨3, ![64, 64, 1]⟩
abbrev S64x64x2 : Shape := ⟨3, ![64, 64, 2]⟩
abbrev S1x1x64x64x2 : Shape := ⟨5, ![1, 1, 64, 64, 2]⟩
abbrev S_ : Shape := ⟨0, ![]⟩
abbrev S1x3x1x1x2 : Shape := ⟨5, ![1, 3, 1, 1, 2]⟩
abbrev S32x3x64x64x1 : Shape := ⟨5, ![32, 3, 64, 64, 1]⟩
abbrev S32x3x64x64x2 : Shape := ⟨5, ![32, 3, 64, 64, 2]⟩
abbrev S32x3x64x64x80 : Shape := ⟨5, ![32, 3, 64, 64, 80]⟩
abbrev S32x12288x85 : Shape := ⟨3, ![32, 12288, 85]⟩

abbrev nBuf : Space → Nat
  | .hbm => 58
  | .vmem => 0
  | .smem => 0
  | _ => 0

abbrev bufTy : (tb : Table) → Fin (tcTables nBuf tb) → BufTy
  | .hbm, ⟨0, _⟩ => ⟨S32x255x64x64, .f32⟩
  | .hbm, ⟨1, _⟩ => ⟨S3x2, .f32⟩
  | .hbm, ⟨2, _⟩ => ⟨S32x3x85x64x64, .f32⟩
  | .hbm, ⟨3, _⟩ => ⟨S32x3x64x64x85, .f32⟩
  | .hbm, ⟨4, _⟩ => ⟨S64, .i32⟩
  | .hbm, ⟨5, _⟩ => ⟨S64, .i32⟩
  | .hbm, ⟨6, _⟩ => ⟨S64x64, .i32⟩
  | .hbm, ⟨7, _⟩ => ⟨S64x64, .i32⟩
  | .hbm, ⟨8, _⟩ => ⟨S64x64x1, .i32⟩
  | .hbm, ⟨9, _⟩ => ⟨S64x64x1, .i32⟩
  | .hbm, ⟨10, _⟩ => ⟨S64x64x2, .i32⟩
  | .hbm, ⟨11, _⟩ => ⟨S1x1x64x64x2, .i32⟩
  | .hbm, ⟨12, _⟩ => ⟨S1x1x64x64x2, .f32⟩
  | .hbm, ⟨13, _⟩ => ⟨S_, .f32⟩
  | .hbm, ⟨14, _⟩ => ⟨S3x2, .f32⟩
  | .hbm, ⟨15, _⟩ => ⟨S3x2, .f32⟩
  | .hbm, ⟨16, _⟩ => ⟨S1x3x1x1x2, .f32⟩
  | .hbm, ⟨17, _⟩ => ⟨S32x3x64x64x1, .f32⟩
  | .hbm, ⟨18, _⟩ => ⟨S32x3x64x64x1, .f32⟩
  | .hbm, ⟨19, _⟩ => ⟨S32x3x64x64x1, .f32⟩
  | .hbm, ⟨20, _⟩ => ⟨S_, .f32⟩
  | .hbm, ⟨21, _⟩ => ⟨S32x3x64x64x1, .f32⟩
  | .hbm, ⟨22, _⟩ => ⟨S32x3x64x64x1, .f32⟩
  | .hbm, ⟨23, _⟩ => ⟨S_, .f32⟩
  | .hbm, ⟨24, _⟩ => ⟨S32x3x64x64x1, .f32⟩
  | .hbm, ⟨25, _⟩ => ⟨S32x3x64x64x1, .f32⟩
  | .hbm, ⟨26, _⟩ => ⟨S32x3x64x64x2, .f32⟩
  | .hbm, ⟨27, _⟩ => ⟨S32x3x64x64x2, .f32⟩
  | .hbm, ⟨28, _⟩ => ⟨S32x3x64x64x2, .f32⟩
  | .hbm, ⟨29, _⟩ => ⟨S_, .f32⟩
  | .hbm, ⟨30, _⟩ => ⟨S32x3x64x64x2, .f32⟩
  | .hbm, ⟨31, _⟩ => ⟨S32x3x64x64x2, .f32⟩
  | .hbm, ⟨32, _⟩ => ⟨S_, .f32⟩
  | .hbm, ⟨33, _⟩ => ⟨S32x3x64x64x2, .f32⟩
  | .hbm, ⟨34, _⟩ => ⟨S32x3x64x64x2, .f32⟩
  | .hbm, ⟨35, _⟩ => ⟨S32x3x64x64x2, .f32⟩
  | .hbm, ⟨36, _⟩ => ⟨S32x3x64x64x2, .f32⟩
  | .hbm, ⟨37, _⟩ => ⟨S_, .f32⟩
  | .hbm, ⟨38, _⟩ => ⟨S32x3x64x64x2, .f32⟩
  | .hbm, ⟨39, _⟩ => ⟨S32x3x64x64x2, .f32⟩
  | .hbm, ⟨40, _⟩ => ⟨S32x3x64x64x2, .f32⟩
  | .hbm, ⟨41, _⟩ => ⟨S32x3x64x64x2, .f32⟩
  | .hbm, ⟨42, _⟩ => ⟨S32x3x64x64x2, .f32⟩
  | .hbm, ⟨43, _⟩ => ⟨S32x3x64x64x2, .f32⟩
  | .hbm, ⟨44, _⟩ => ⟨S_, .f32⟩
  | .hbm, ⟨45, _⟩ => ⟨S32x3x64x64x2, .f32⟩
  | .hbm, ⟨46, _⟩ => ⟨S32x3x64x64x2, .f32⟩
  | .hbm, ⟨47, _⟩ => ⟨S32x3x64x64x80, .f32⟩
  | .hbm, ⟨48, _⟩ => ⟨S32x3x64x64x80, .f32⟩
  | .hbm, ⟨49, _⟩ => ⟨S32x3x64x64x80, .f32⟩
  | .hbm, ⟨50, _⟩ => ⟨S_, .f32⟩
  | .hbm, ⟨51, _⟩ => ⟨S32x3x64x64x80, .f32⟩
  | .hbm, ⟨52, _⟩ => ⟨S32x3x64x64x80, .f32⟩
  | .hbm, ⟨53, _⟩ => ⟨S_, .f32⟩
  | .hbm, ⟨54, _⟩ => ⟨S32x3x64x64x80, .f32⟩
  | .hbm, ⟨55, _⟩ => ⟨S32x3x64x64x80, .f32⟩
  | .hbm, ⟨56, _⟩ => ⟨S32x3x64x64x85, .f32⟩
  | .hbm, ⟨57, _⟩ => ⟨S32x12288x85, .f32⟩
  | _, _ => ⟨S32x255x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_4 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_5 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_6 : Ref sig .tc := ⟨.hbm, 50, rfl⟩
abbrev main_v41 : Ref sig .tc := ⟨.hbm, 51, rfl⟩
abbrev main_v42 : Ref sig .tc := ⟨.hbm, 52, rfl⟩
abbrev main_cst_7 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]
-- ==== Proof.Ideal.Setup.lean ====
/- The ground the run of the kernel stands on: which of its branches a grid point takes, the buffers and semaphores its
   body is called on, and the two-slot ring that brings the blocks of the transposed input in, one block ahead. -/
module

public import proofs.«01_k».proof.Proof.Gen.KernelIdeal.Frame
public import proofs.«01_k».proof.Proof.Gen.KernelIdeal.Skeleton
public import Idealize.ShloMosaic.Lib.Ring

@[expose] public section

set_option maxRecDepth 16384

noncomputable section

namespace Cert.KernelIdeal.Decode

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-! ## @main around the kernel -/

set_option maxHeartbeats 800000 in
/-- `main` runs the host lines that lay the input and the table out, then the kernel, then the host line that transposes
    the kernel's result. -/
theorem main_around (𝒱₀ : Variants) : Pipeline.HMainK (Ix := Unit) (Name := ℕ) (U := UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The table has one block, staged once: at every point the staging buffer holds it, for any proof data that starts from
    the contents at the kernel's entry and leaves the block in place. -/
theorem table_before {c : Dev nD} (dat : Dat τ (Elt F) Unit ℕ (UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## Which branches a point takes

The body's six conditions, and each in closed form over the 48 points: point `t` is block `t / 3` at anchor `t % 3`. -/

/-- a block's first anchor: the ring takes a step; -/
abbrev cStep (i : grid0.Coords) : Prop := k0_cond1 i = 1#1
/-- the first block: its own transfer is still to start; -/
abbrev cFirst (i : grid0.Coords) : Prop := k0_cond2 i = 1#1
/-- a block follows: its transfer starts now; -/
abbrev cMore (i : grid0.Coords) : Prop := k0_cond3 i = 1#1
/-- the three decodes, one for each anchor. -/
abbrev cA0 (i : grid0.Coords) : Prop := k0_cond4 i = 1#1
abbrev cA1 (i : grid0.Coords) : Prop := k0_cond5 i = 1#1
abbrev cA2 (i : grid0.Coords) : Prop := k0_cond6 i = 1#1
theorem cStep_iff : ∀ t : Fin grid0.N, cStep (grid0.coords t) ↔ t.val % 3 = 0 := by decide +kernel
theorem cFirst_iff : ∀ t : Fin grid0.N, cFirst (grid0.coords t) ↔ t.val < 3 := by decide +kernel
theorem cMore_iff : ∀ t : Fin grid0.N, cMore (grid0.coords t) ↔ t.val < 45 := by decide +kernel
theorem cA0_iff : ∀ t : Fin grid0.N, cA0 (grid0.coords t) ↔ t.val % 3 = 0 := by decide +kernel
theorem cA1_iff : ∀ t : Fin grid0.N, cA1 (grid0.coords t) ↔ t.val % 3 = 1 := by decide +kernel
theorem cA2_iff : ∀ t : Fin grid0.N, cA2 (grid0.coords t) ↔ t.val % 3 = 2 := by decide +kernel

/-! ## The buffers and semaphores of the body -/

/-- The buffers that the body is called on at point `t` for the table and for the result; each is a whole buffer. -/
abbrev tabM (t : Fin cfg0.N) : Memref sig .tc .vmem S6x1x255 .f32 := win0_0.stage (cfg0.slots t 0)
abbrev tabM_whole (t : Fin cfg0.N) : (tabM t).IsWhole := hstage0_0 ((cfg0.slots t 0).cast nbuf0_0)
abbrev outM (t : Fin cfg0.N) : Memref sig .tc .vmem S85x16x512 .f32 := win0_1.stage (cfg0.slots t 1)
abbrev outM_whole (t : Fin cfg0.N) : (outM t).IsWhole := hstage0_1 ((cfg0.slots t 1).cast nbuf0_1)
/-- The kernel's own scratch: the two slots of the ring, and the offsets. -/
abbrev ringM : Memref sig .tc .vmem S2x16x512x255 .f32 := Memref.whole cc0_scratch0
abbrev addM : Memref sig .tc .vmem S512x85 .f32 := Memref.whole cc0_scratch1
/-- The transposed input, which stays in main memory; the body copies blocks of it into the slots. -/
abbrev xM : Memref sig .tc .hbm S32x4096x255 .f32 := Memref.whole main_v1
/-- Memref `M`'s buffer on core `c`: its contents type, and it held whole at `f`. -/
abbrev MBuf (c : Dev nD) {sp : Space} {S : Shape} {e : EltTy} (M : Memref sig .tc sp S e) : Type := Buf (Elt F) (M.view.loc (c : Thread nD τ))
abbrev mPt (c : Dev nD) {sp : Space} {S : Shape} {e : EltTy} (M : Memref sig .tc sp S e) (f : MBuf (F := F) c M) : sProp 𝕄 :=
  M.view.loc (c : Thread nD τ) ↦{fullShare} f

/-- The two semaphores of the body's own transfers, one for each slot; none of them belongs to a window. -/
abbrev cells : Fin 2 → SemLoc sig := fun j => (![SemLoc.dma 3, SemLoc.dma 4] : Fin 2 → SemLoc sig) j
theorem cells_own : Pipeline.OwnSemFacts spec0 cells := by decide
/-- Both at zero. -/
theorem cells_zero_eq (c : Dev nD) :
    (Pipeline.ownSems0 (Ix := Unit) (Name := ℕ) (U := UD sig nD τ) (Lvl := ℕ) (Val := Elt F) (τ := τ) cells c : sProp 𝕄)
      = iprop(semVal ((c : Thread nD τ), SemLoc.dma 3) 0 ∗ semVal ((c : Thread nD τ), SemLoc.dma 4) 0) := by
  rw [Pipeline.ownSems0_eq_of_list c cells [0, 1] (by decide) (by decide)]; rfl
/-- The transposed input is the one array that the body moves itself; it is no window's array. -/
def xRefs : Finset (Ref sig .tc) := {main_v1}
theorem xRefs_sub : xRefs ⊆ Pipeline.restRefs sig spec0 := by decide
/-- The host line after the kernel doesn't touch the transposed input. -/
theorem tail_avoids_x : ∀ ops ∈ ([hostOps1] : List (List (HloOp τ sig (Elt F)))), ∀ op ∈ ops,
    op.bufs ⊆ Pipeline.tailRefsBut sig Pipeline.Prefetch.none spec0 xRefs := by
  intro ops hops op hop
  simp only [List.mem_cons, List.mem_nil_iff, or_false] at hops
  rcases hops with rfl
  · refine Pipeline.sub_tailRefsBut Pipeline.Prefetch.none spec0 xRefs op ((List.forall_iff_forall_mem.mp hostOps1_sub) op hop) (fun j => j.elim0) ?_
    simp only [hostOps1, List.mem_cons, List.mem_nil_iff, or_false] at hop
    rcases hop with rfl
    all_goals intro b hb; simp only [xRefs, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- The transposed input held whole, as the launch gives it. -/
theorem xPts_eq (c : Dev nD) :
    (bigSep xRefs (fun b => ((c : Thread nD τ).loc b) ↦{fullShare} V m c b) : sProp 𝕄) = iprop(mPt c xM (V m c main_v1)) := by
  rw [BI.bigSep_eq_bigSepL_of_eq [main_v1] (by decide) (by decide)]; rfl

/-- What the launch gives the body and takes back, piece by piece: the scratch at some contents, the generator's register at
    some state, the two semaphores at zero, the transposed input as the host lines left it. -/
theorem launch_eq (c : Dev nD) :
    (Pipeline.ΦD cells spec0 xRefs (V m) c : sProp 𝕄)
      = iprop(iprop((∃ d, owns (c : Thread nD τ) ringM fullShare d) ∗ (∃ d, owns (c : Thread nD τ) addM fullShare d)) ∗ (∃ r, prngReg c r) ∗ iprop(semVal ((c : Thread nD τ), SemLoc.dma 3) 0 ∗ semVal ((c : Thread nD τ), SemLoc.dma 4) 0) ∗ iprop(mPt c xM (V m c main_v1))) := by
  rw [Pipeline.ΦD_eq, scopedRest0_eq, cells_zero_eq, xPts_eq]; simp only [ringM, addM, owns_whole]; try rfl

/-! ## The ring: sixteen blocks of the transposed input through two slots, one block ahead -/

instance : NeZero grid0.N := ⟨by rw [N_0]; decide⟩
/-- How many blocks were waited for before point `t`: one every three points, the first at point 0. -/
def stepAt (t : ℕ) : ℕ := (t + 2) / 3
theorem slot_inb (s : Fin 2) : ∀ a, (![s.val, 0, 0, 0] : Fin 4 → Nat) a + S1x16x512x255.size a ≤ S2x16x512x255.size a := by
  have := s.isLt; intro a; fin_cases a <;> simp <;> omega
theorem blk_inb (b : Fin 16) : ∀ a, (![16 * (b.val / 8), 512 * (b.val % 8), 0] : Fin 3 → Nat) a + S16x512x255.size a ≤ S32x4096x255.size a := by
  have := b.isLt; intro a; fin_cases a <;> simp <;> omega
theorem cell_inb (s : Fin 2) : ∀ a, (![s.val] : Fin 1 → Nat) a + S1.size a ≤ S2.size a := by
  have := s.isLt; intro a; fin_cases a <;> simp <;> omega
/-- Slot `s` of the ring. -/
def slotM (s : Fin 2) : Memref sig .tc .vmem S16x512x255 .f32 :=
  (ringM.slice (Rect.unit (s := S2x16x512x255) ![s.val, 0, 0, 0] S1x16x512x255.size (slot_inb s)) (fun _ => rfl)).squeeze S16x512x255 squeezes_S1x16x512x255_S16x512x255
/-- Block `b` of the transposed input: sixteen batch elements, 512 cells. -/
def blkM (b : Fin 16) : Memref sig .tc .hbm S16x512x255 .f32 :=
  xM.slice (Rect.unit (s := S32x4096x255) ![16 * (b.val / 8), 512 * (b.val % 8), 0] S16x512x255.size (blk_inb b)) (fun _ => rfl)
/-- The semaphore of slot `s`. -/
def cellM (s : Fin 2) : DmaSems sig S_ := (cc0_scratch2.slice (Rect.unit (s := S2) ![s.val] S1.size (cell_inb s))).squeeze S_ squeezes_S1_S_
abbrev cellL (s : Fin 2) : SemLoc sig := SemLoc.dma (cellM s).sem
theorem cellL_zero : cellL 0 = SemLoc.dma 3 := by decide
theorem cellL_one : cellL 1 = SemLoc.dma 4 := by decide

section Families
variable (c : Dev nD) (W : MBuf (F := F) c xM)
/-- Each slot has its own half share of the input to read from, so that two transfers may be under way at once. -/
abbrev lent (s : Fin 2) : PosShare TreeShare := if s.val = 0 then fullShare.left else fullShare.right
/-- Slot `s` held at `f`, -/
abbrev slotP (s : Fin 2) (f : MBuf (F := F) c (slotM s)) : sProp 𝕄 := (slotM s).view.loc (c : Thread nD τ) ↦[(slotM s).view.set]{fullShare} f
/-- its semaphore at zero, -/
abbrev cellP (s : Fin 2) : sProp 𝕄 := semVal ((c : Thread nD τ), cellL s) 0
/-- the elements of block `b` in the slot's share of the input, -/
abbrev srcP (s : Fin 2) (b : Fin 16) : sProp 𝕄 := (blkM b).view.loc (c : Thread nD τ) ↦[(blkM b).view.set]{lent s} W
/-- the rest of that share, -/
def restP (s : Fin 2) (b : Fin 16) : sProp 𝕄 := ((c : Thread nD τ).loc main_v1) ↦[Finset.univ \ (blkM b).view.set]{lent s} W
/-- and the share whole. -/
abbrev copyP (s : Fin 2) : sProp 𝕄 := ((c : Thread nD τ).loc main_v1) ↦[Finset.univ]{lent s} W
/-- The slot's contents when block `b` has landed, over `f`, -/
abbrev landed (s : Fin 2) (b : Fin 16) (f : MBuf (F := F) c (slotM s)) : MBuf (F := F) c (slotM s) :=
  (slotM s).view.writes (Elt F) f [⟨Rect.whole S16x512x255, ReadAs.same.apply ((blkM b).view.read (Elt F) W)⟩]
/-- and block `b` on its way into the slot: at its end it gives the slot landed, and the elements it read from back. -/
abbrev flightP (s : Fin 2) (b : Fin 16) (f : MBuf (F := F) c (slotM s)) : sProp 𝕄 :=
  Transfers.Flight countersEmb (c : Thread nD τ) (cellL s) default ((slotM s).view.amount (cellL s))
    iprop(slotP c s (landed c W s b f) ∗ srcP c W s b)
/-- A slot with nothing on its way carries its share of the input whole, -/
abbrev slotW (s : Fin 2) (f : MBuf (F := F) c (slotM s)) : sProp 𝕄 := iprop(slotP c s f ∗ copyP c W s)
/-- one with a block on its way the rest of the share; -/
abbrev flightW (s : Fin 2) (b : Fin 16) (f : MBuf (F := F) c (slotM s)) : sProp 𝕄 := iprop(flightP c W s b f ∗ restP c W s b)
/-- no block is held anywhere else. -/
abbrev noHome (b : Fin 16) : sProp 𝕄 := iprop(emp)
/-- The ring before its step `k`: before the first every slot is free; later block `k` is on its way into its slot, and the
    other slot keeps block `k - 1` until the step sends block `k + 1` over it. -/
def ringAt (k : ℕ) : sProp 𝕄 :=
  if k = 0 then Ring.At₀ (cellP c) (slotW c W) noHome
  else Ring.AtK 1 (cellP c) (slotW c W) noHome (flightW c W) (landed c W) k
omit [FloatOps F] in
theorem cellP_zero : cellP (F := F) c 0 = semVal ((c : Thread nD τ), SemLoc.dma 3) 0 := congrArg (fun x => (semVal ((c : Thread nD τ), x) 0 : sProp 𝕄)) cellL_zero
omit [FloatOps F] in
theorem cellP_one : cellP (F := F) c 1 = semVal ((c : Thread nD τ), SemLoc.dma 4) 0 := congrArg (fun x => (semVal ((c : Thread nD τ), x) 0 : sProp 𝕄)) cellL_one
end Families

/-! ### The two slots are disjoint and make up the scratch -/

abbrev slotSet (s : Fin 2) : Finset S2x16x512x255.Idx := (Rect.unit (s := S2x16x512x255) ![s.val, 0, 0, 0] S1x16x512x255.size (slot_inb s)).set
theorem slotSet_eq (s : Fin 2) : (slotM s).view.set = slotSet s := by
  simp only [slotM, Memref.view_squeeze, View.set_reshape]; exact View.set_slice_whole _ _
theorem slots_disjoint (s s' : Fin 2) (h : s ≠ s') : Disjoint (slotSet s) (slotSet s') :=
  Ring.lead_disjoint (s := S2x16x512x255) (0 : Fin 4) 1 (fun s : Fin 2 => (![s.val, 0, 0, 0] : Fin 4 → Nat)) S1x16x512x255.size slot_inb (fun s => by simp) rfl s s' h
theorem slots_cover : Finset.univ.biUnion slotSet = Finset.univ :=
  Ring.lead_cover (s := S2x16x512x255) (0 : Fin 4) 1 (fun s : Fin 2 => (![s.val, 0, 0, 0] : Fin 4 → Nat)) S1x16x512x255.size slot_inb (fun s => by simp)
    (fun s a ha => by fin_cases a <;> first | exact absurd rfl ha | rfl) rfl (fun a ha => by fin_cases a <;> first | exact absurd rfl ha | rfl) rfl

/-! ### What the launch hands the ring, and takes back -/

section InOut
variable (c : Dev nD) (W : MBuf (F := F) c xM)
theorem slotP_eq (s : Fin 2) (f) : slotP (F := F) c s f = (((c : Thread nD τ).loc cc0_scratch0) ↦[slotSet s]{fullShare} f : sProp 𝕄) := by
  unfold slotP; rw [slotSet_eq]; rfl
/-- A slot's share of the input is block `b`'s elements and the rest; -/
theorem copy_split (s : Fin 2) (b : Fin 16) : copyP (F := F) c W s ⊣⊢ iprop(srcP c W s b ∗ restP c W s b) := by
  unfold restP; exact pointsTo_split_subset (Finset.subset_univ _)
/-- the input held whole is the two shares; -/
theorem x_split : (mPt c xM W : sProp 𝕄) ⊣⊢ iprop(copyP c W 0 ∗ copyP c W 1) :=
  pointsTo_share (PosShare.mem_left_op_right fullShare)
set_option maxHeartbeats 1000000 in
/-- the scratch at anything is its slots at something each, and back. -/
theorem slots_in : iprop(∃ d, owns (c : Thread nD τ) ringM fullShare d) ⊢ (iprop((∃ f, slotP (F := F) c 0 f) ∗ ∃ f, slotP (F := F) c 1 f) : sProp 𝕄) := by
  simp only [ringM, owns_whole]
  exact Ring.slots2_split (U := UD sig nD τ) (ℓ := (c : Thread nD τ).loc cc0_scratch0) (q := fullShare) slotSet slots_disjoint slots_cover
    (slotP c 0) (slotP c 1) (slotP_eq c 0) (slotP_eq c 1)
set_option maxHeartbeats 1000000 in
theorem slots_out : (iprop((∃ f, slotP (F := F) c 0 f) ∗ ∃ f, slotP (F := F) c 1 f) : sProp 𝕄) ⊢ iprop(∃ d, owns (c : Thread nD τ) ringM fullShare d) := by
  simp only [ringM, owns_whole]
  exact Ring.slots2_join (U := UD sig nD τ) (ℓ := (c : Thread nD τ).loc cc0_scratch0) (q := fullShare) slotSet slots_disjoint slots_cover
    (slotP c 0) (slotP c 1) (slotP_eq c 0) (slotP_eq c 1)
end InOut

/-- The scratch whole, the semaphores at zero and the input whole are the ring before its first step; -/
theorem ring_in (c : Dev nD) :
    iprop((∃ d, owns (c : Thread nD τ) ringM fullShare d) ∗ (semVal ((c : Thread nD τ), SemLoc.dma 3) 0 ∗ semVal ((c : Thread nD τ), SemLoc.dma 4) 0) ∗ mPt c xM (V m c main_v1))
      ⊢ ringAt c (V m c main_v1) 0 := by
  unfold ringAt; rw [if_pos rfl]; unfold Ring.At₀
  rw [Ring.bigSep_fin2]
  simp only [Ring.free, cellP_zero, cellP_one]
  iintro ⟨HS, Hc, HW⟩
  iapply Ring.with_homes₀
  icases Hc with ⟨Hc0, H1⟩
  ihave HS' := (slots_in (F := F) c) $$ HS
  icases HS' with ⟨⟨%d0, HS0⟩, ⟨%d1, HS1⟩⟩
  ihave HW' := (x_split (F := F) c (V m c main_v1)).1 $$ HW
  icases HW' with ⟨HW0, HW1⟩
  isplitl [Hc0 HS0 HW0]
  · isplitl [Hc0]; · iexact Hc0
    iexists d0; isplitl [HS0]; · iexact HS0
    iexact HW0
  · isplitl [H1]; · iexact H1
    iexists d1; isplitl [HS1]; · iexact HS1
    iexact HW1
/-- and after the last step the ring gives them back. -/
theorem ring_out (c : Dev nD) :
    ringAt c (V m c main_v1) 16
      ⊢ iprop((∃ d, owns (c : Thread nD τ) ringM fullShare d) ∗ (semVal ((c : Thread nD τ), SemLoc.dma 3) 0 ∗ semVal ((c : Thread nD τ), SemLoc.dma 4) 0) ∗ mPt c xM (V m c main_v1)) := by
  unfold ringAt; rw [if_neg (by decide)]
  iintro H
  ihave H' := (Ring.free2_of_AtK_last _ _ _ _ _) $$ H
  simp only [Ring.free, cellP_zero, cellP_one]
  icases H' with ⟨-, ⟨Hc0, ⟨%f0, HS0, HW0⟩⟩, ⟨H1, ⟨%f1, HS1, HW1⟩⟩⟩
  isplitl [HS0 HS1]
  · iapply (slots_out (F := F) c); isplitl [HS0]; · iexists f0; iexact HS0
    iexists f1; iexact HS1
  isplitl [Hc0 H1]
  · isplitl [Hc0]; · iexact Hc0
    iexact H1
  · iapply (x_split (F := F) c (V m c main_v1)).2; isplitl [HW0]; · iexact HW0
    iexact HW1

/-! ## The body's operands by the ring's names

At a point the body spells a slot, a semaphore or a block by an offset computed from the coordinates. Each spelling is the
ring's slot, semaphore or block of the point's step, or of the next one. -/

section Names
omit [FloatOps F]

/-- Two spellings of a slot at equal offsets are one. -/
theorem slot_spelt {off : Fin 4 → ℕ} (inb : ∀ a, off a + S1x16x512x255.size a ≤ S2x16x512x255.size a) (s : Fin 2) (h : off = ![s.val, 0, 0, 0]) :
    (ringM.slice (Rect.unit (s := S2x16x512x255) off S1x16x512x255.size inb) (fun _ => rfl)).squeeze S16x512x255 squeezes_S1x16x512x255_S16x512x255 = slotM s := by
  subst h; rfl
/-- Two spellings of a semaphore at equal offsets are one. -/
theorem cell_spelt {off : Fin 1 → ℕ} (inb : ∀ a, off a + S1.size a ≤ S2.size a) (s : Fin 2) (h : off = ![s.val]) :
    (cc0_scratch2.slice (Rect.unit (s := S2) off S1.size inb)).squeeze S_ squeezes_S1_S_ = cellM s := by
  subst h; rfl
/-- Two spellings of a block of the input at equal offsets are one. -/
theorem blk_spelt {off : Fin 3 → ℕ} (inb : ∀ a, off a + S16x512x255.size a ≤ S32x4096x255.size a) (b : Fin 16) (h : off = ![16 * (b.val / 8), 512 * (b.val % 8), 0]) :
    xM.slice (Rect.unit (s := S32x4096x255) off S16x512x255.size inb) (fun _ => rfl) = blkM b := by
  subst h; rfl

/-- The offsets that the body computes, at the points where it uses them: of the first transfer, of the next block's, of the
    wait, and of the reads at the three anchors. -/
theorem off_first_slot : ∀ t : Fin grid0.N, cStep (grid0.coords t) → cFirst (grid0.coords t) → (![0, 0, 0, 0] : Fin 4 → ℕ) = ![(Ring.sl 2 (stepAt t.val)).val, 0, 0, 0] := by decide +kernel
theorem off_first_cell : ∀ t : Fin grid0.N, cStep (grid0.coords t) → cFirst (grid0.coords t) → (![0] : Fin 1 → ℕ) = ![(Ring.sl 2 (stepAt t.val)).val] := by decide +kernel
theorem off_first_blk : ∀ t : Fin grid0.N, cStep (grid0.coords t) → cFirst (grid0.coords t) → k0_off1 = ![16 * ((Ring.bk 16 (stepAt t.val)).val / 8), 512 * ((Ring.bk 16 (stepAt t.val)).val % 8), 0] := by decide +kernel
theorem off_next_slot : ∀ t : Fin grid0.N, cStep (grid0.coords t) → cMore (grid0.coords t) → k0_off3 (grid0.coords t) = ![(Ring.sl 2 (stepAt t.val + 1)).val, 0, 0, 0] := by decide +kernel
theorem off_next_cell : ∀ t : Fin grid0.N, cStep (grid0.coords t) → cMore (grid0.coords t) → k0_off2 (grid0.coords t) = ![(Ring.sl 2 (stepAt t.val + 1)).val] := by decide +kernel
theorem off_next_blk : ∀ t : Fin grid0.N, cStep (grid0.coords t) → cMore (grid0.coords t) → k0_off4 (grid0.coords t) = ![16 * ((Ring.bk 16 (stepAt t.val + 1)).val / 8), 512 * ((Ring.bk 16 (stepAt t.val + 1)).val % 8), 0] := by decide +kernel
theorem off_wait_slot : ∀ t : Fin grid0.N, cStep (grid0.coords t) → k0_off6 (grid0.coords t) = ![(Ring.sl 2 (stepAt t.val)).val, 0, 0, 0] := by decide +kernel
theorem off_wait_cell : ∀ t : Fin grid0.N, cStep (grid0.coords t) → k0_off5 (grid0.coords t) = ![(Ring.sl 2 (stepAt t.val)).val] := by decide +kernel
theorem off_read0_slot : ∀ t : Fin grid0.N, cA0 (grid0.coords t) → k0_off8 (grid0.coords t) = ![(Ring.sl 2 (stepAt t.val)).val, 0, 0, 0] := by decide +kernel
theorem off_read1_slot : ∀ t : Fin grid0.N, cA1 (grid0.coords t) → k0_off9 (grid0.coords t) = ![(Ring.sl 2 (stepAt t.val + 1)).val, 0, 0, 0] := by decide +kernel
theorem off_read2_slot : ∀ t : Fin grid0.N, cA2 (grid0.coords t) → k0_off10 (grid0.coords t) = ![(Ring.sl 2 (stepAt t.val + 1)).val, 0, 0, 0] := by decide +kernel

/-- So each buffer, semaphore and block that the body names is the ring's. -/
theorem name_first_slot (t : Fin grid0.N) (h0 : cStep (grid0.coords t)) (h1 : cFirst (grid0.coords t)) :
    (ringM.slice (Rect.unit (s := S2x16x512x255) ![0, 0, 0, 0] S1x16x512x255.size inb_S2x16x512x255_S1x16x512x255_0_0_0_0) (fun _ => rfl)).squeeze S16x512x255 squeezes_S1x16x512x255_S16x512x255 = slotM (Ring.sl 2 (stepAt t.val)) :=
  slot_spelt _ _ (off_first_slot t h0 h1)
theorem name_first_cell (t : Fin grid0.N) (h0 : cStep (grid0.coords t)) (h1 : cFirst (grid0.coords t)) :
    (cc0_scratch2.slice (Rect.unit (s := S2) ![0] S1.size inb_S2_S1_0)).squeeze S_ squeezes_S1_S_ = cellM (Ring.sl 2 (stepAt t.val)) :=
  cell_spelt _ _ (off_first_cell t h0 h1)
theorem name_first_blk (t : Fin grid0.N) (h0 : cStep (grid0.coords t)) (h1 : cFirst (grid0.coords t)) :
    xM.slice (Rect.unit (s := S32x4096x255) k0_off1 S16x512x255.size (k0_off1_inb (grid0.coords t) h0 h1)) (fun _ => rfl) = blkM (Ring.bk 16 (stepAt t.val)) :=
  blk_spelt _ _ (off_first_blk t h0 h1)
theorem name_next_slot (t : Fin grid0.N) (h0 : cStep (grid0.coords t)) (h1 : cMore (grid0.coords t)) :
    (ringM.slice (Rect.unit (s := S2x16x512x255) (k0_off3 (grid0.coords t)) S1x16x512x255.size (k0_off3_inb (grid0.coords t) h0 h1)) (fun _ => rfl)).squeeze S16x512x255 squeezes_S1x16x512x255_S16x512x255 = slotM (Ring.sl 2 (stepAt t.val + 1)) :=
  slot_spelt _ _ (off_next_slot t h0 h1)
theorem name_next_cell (t : Fin grid0.N) (h0 : cStep (grid0.coords t)) (h1 : cMore (grid0.coords t)) :
    (cc0_scratch2.slice (Rect.unit (s := S2) (k0_off2 (grid0.coords t)) S1.size (k0_off2_inb (grid0.coords t) h0 h1))).squeeze S_ squeezes_S1_S_ = cellM (Ring.sl 2 (stepAt t.val + 1)) :=
  cell_spelt _ _ (off_next_cell t h0 h1)
theorem name_next_blk (t : Fin grid0.N) (h0 : cStep (grid0.coords t)) (h1 : cMore (grid0.coords t)) :
    xM.slice (Rect.unit (s := S32x4096x255) (k0_off4 (grid0.coords t)) S16x512x255.size (k0_off4_inb (grid0.coords t) h0 h1)) (fun _ => rfl) = blkM (Ring.bk 16 (stepAt t.val + 1)) :=
  blk_spelt _ _ (off_next_blk t h0 h1)
theorem name_wait_slot (t : Fin grid0.N) (h0 : cStep (grid0.coords t)) :
    (ringM.slice (Rect.unit (s := S2x16x512x255) (k0_off6 (grid0.coords t)) S1x16x512x255.size (k0_off6_inb (grid0.coords t) h0)) (fun _ => rfl)).squeeze S16x512x255 squeezes_S1x16x512x255_S16x512x255 = slotM (Ring.sl 2 (stepAt t.val)) :=
  slot_spelt _ _ (off_wait_slot t h0)
theorem name_wait_cell (t : Fin grid0.N) (h0 : cStep (grid0.coords t)) :
    (cc0_scratch2.slice (Rect.unit (s := S2) (k0_off5 (grid0.coords t)) S1.size (k0_off5_inb (grid0.coords t) h0))).squeeze S_ squeezes_S1_S_ = cellM (Ring.sl 2 (stepAt t.val)) :=
  cell_spelt _ _ (off_wait_cell t h0)
theorem name_read0_slot (t : Fin grid0.N) (h0 : cA0 (grid0.coords t)) :
    (ringM.slice (Rect.unit (s := S2x16x512x255) (k0_off8 (grid0.coords t)) S1x16x512x255.size (k0_off8_inb (grid0.coords t) h0)) (fun _ => rfl)).squeeze S16x512x255 squeezes_S1x16x512x255_S16x512x255 = slotM (Ring.sl 2 (stepAt t.val)) :=
  slot_spelt _ _ (off_read0_slot t h0)
theorem name_read1_slot (t : Fin grid0.N) (h0 : cA1 (grid0.coords t)) :
    (ringM.slice (Rect.unit (s := S2x16x512x255) (k0_off9 (grid0.coords t)) S1x16x512x255.size (k0_off9_inb (grid0.coords t) h0)) (fun _ => rfl)).squeeze S16x512x255 squeezes_S1x16x512x255_S16x512x255 = slotM (Ring.sl 2 (stepAt t.val + 1)) :=
  slot_spelt _ _ (off_read1_slot t h0)
theorem name_read2_slot (t : Fin grid0.N) (h0 : cA2 (grid0.coords t)) :
    (ringM.slice (Rect.unit (s := S2x16x512x255) (k0_off10 (grid0.coords t)) S1x16x512x255.size (k0_off10_inb (grid0.coords t) h0)) (fun _ => rfl)).squeeze S16x512x255 squeezes_S1x16x512x255_S16x512x255 = slotM (Ring.sl 2 (stepAt t.val + 1)) :=
  slot_spelt _ _ (off_read2_slot t h0)
end Names

end Cert.KernelIdeal.Decode

end
-- ==== Proof.Ideal.Rows.lean ====
/- What one grid point computes: the rows the body reads from the table and from the block of the input, the row of the
   result it makes of them, and the whole block of the result. -/
module

public import proofs.«01_k».proof.Proof.Ideal.Setup
public import Idealize.ShloMosaic.Lib.WholeRead
public import Idealize.ShloMosaic.Lib.Pipeline.ReadBack

@[expose] public section

set_option maxRecDepth 16384

noncomputable section

namespace Cert.KernelIdeal.Decode

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

theorem lane_inb (r : Fin 6) (a : Fin 3) : ∀ i, (![r.val, 0, 85 * a.val] : Fin 3 → ℕ) i + S1x1x85.size i ≤ S6x1x255.size i := by
  have := r.isLt; have := a.isLt; intro i; fin_cases i <;> simp <;> omega
theorem row_inb (b : Fin 16) (a : Fin 3) : ∀ i, (![b.val, 0, 85 * a.val] : Fin 3 → ℕ) i + S1x512x85.size i ≤ S16x512x255.size i := by
  have := b.isLt; have := a.isLt; intro i; fin_cases i <;> simp <;> omega
theorem out_inb (b : Fin 16) : ∀ i, (![0, b.val, 0] : Fin 3 → ℕ) i + S85x1x512.size i ≤ S85x16x512.size i := by
  have := b.isLt; intro i; fin_cases i <;> simp <;> omega

/-- Where the body finds row `r` of the table at anchor `a`'s 85 lanes, -/
abbrev laneRect (r : Fin 6) (a : Fin 3) : Rect S6x1x255 := Rect.unit (s := S6x1x255) ![r.val, 0, 85 * a.val] S1x1x85.size (lane_inb r a)
/-- batch row `b` of the input's block at those lanes, -/
abbrev rowRect (b : Fin 16) (a : Fin 3) : Rect S16x512x255 := Rect.unit (s := S16x512x255) ![b.val, 0, 85 * a.val] S1x512x85.size (row_inb b a)
/-- and where it puts batch row `b` of the result. -/
abbrev outRect (b : Fin 16) : Rect S85x16x512 := Rect.unit (s := S85x16x512) ![0, b.val, 0] S85x1x512.size (out_inb b)

/-- Row `r` of the table at anchor `a`'s lanes. -/
def lane (T : Vec F S6x1x255 .f32) (r : Fin 6) (a : Fin 3) : Vec F S1x1x85 .f32 := fun j => T ((laneRect r a).emb j)
/-- Batch row `b` of the block at anchor `a`'s lanes. -/
def xRow (X : Vec F S16x512x255 .f32) (b : Fin 16) (a : Fin 3) : Vec F S1x512x85 .f32 := fun j => X ((rowRect b a).emb j)

/-- The result's row: sign, selector, scale and anchor lanes of the table, the offsets `add`, and the input's row. -/
def decoded (T : Vec F S6x1x255 .f32) (add : Vec F S512x85 .f32) (X : Vec F S16x512x255 .f32) (b : Fin 16) (a : Fin 3) : FVec F S85x1x512 .f32 :=
  k0_pay41 (lane T 0 a) (lane T 1 a) (lane T 2 a) (lane T 3 a) add (xRow X b a)

/-- The block of the result at anchor `a`: its sixteen rows. -/
def block (T : Vec F S6x1x255 .f32) (add : Vec F S512x85 .f32) (X : Vec F S16x512x255 .f32) (a : Fin 3) : Vec F S85x16x512 .f32 :=
  fun y => decoded T add X (y 1) a (fun | 0 => y 0 | 1 => (0 : Fin 1) | 2 => y 2)

/-- The offsets of a block of cells whose first row of cells is `h0`: the cell's row times the table's row 4 plus its column
    times row 5. -/
def offsets (T : Vec F S6x1x255 .f32) (h0 : BitVec 32) : Vec F S512x85 .f32 :=
  k0_pay1 (k0_pay5 (lane T 4 0)) (k0_pay6 (lane T 5 0)) (iota .tc S512x1 32 [0] iota_S512x1_d0_w32) (k0_pay7 (F := F) h0) 64#32

/-- The block has the decoded rows where the body puts them. -/
theorem block_at (T : Vec F S6x1x255 .f32) (add : Vec F S512x85 .f32) (X : Vec F S16x512x255 .f32) (a : Fin 3) (b : Fin 16) (x : (outRect b).shape.Idx) :
    block T add X a ((outRect b).emb x) = decoded T add X b a x := by
  have h1 : (outRect b).emb x 1 = b := Fin.ext (by show b.val + 1 * (x 1).val = b.val; have : (x 1).val < 1 := (x 1).isLt; omega)
  unfold block
  rw [h1]
  congr 1
  funext i
  match i with
  | 0 => exact Fin.ext (by show 0 + 1 * (x 0).val = (x 0).val; omega)
  | 1 => exact Fin.ext (by show 0 = (x 1).val; have : (x 1).val < 1 := (x 1).isLt; omega)
  | 2 => exact Fin.ext (by show 0 + 1 * (x 2).val = (x 2).val; omega)

/-- Every index of the block is in one of the sixteen rows. -/
theorem out_mem (y : S85x16x512.Idx) (b : Fin 16) (h : y 1 = b) : y ∈ (outRect b).set := by
  rw [Rect.mem_set_unit]
  intro i
  match i with
  | 0 => exact ⟨Nat.zero_le _, by show (y 0).val < 0 + 85; have : (y 0).val < 85 := (y 0).isLt; omega⟩
  | 1 => rw [h]; exact ⟨le_refl _, by show b.val < b.val + 1; omega⟩
  | 2 => exact ⟨Nat.zero_le _, by show (y 2).val < 0 + 512; have : (y 2).val < 512 := (y 2).isLt; omega⟩

/-- A load of the table's row off a buffer that holds the table is that row. -/
theorem load_lane (M : Memref sig .tc .vmem S6x1x255 .f32) (h : M.IsWhole) (T : Vec F S6x1x255 .f32) (r : Fin 6) (a : Fin 3) :
    View.readAt (Elt F) M.view (laneRect r a).toLoadRect (h.unread T) = lane T r a :=
  funext fun x => h.readAt_unread T _ x

/-- The whole of the offsets' buffer, spelt as a rectangle, places every index at itself. -/
theorem full_emb (x : S512x85.Idx) : (Rect.unit (s := S512x85) ![0, 0] S512x85.size inb_S512x85_S512x85_0_0).emb x = x :=
  funext fun i => Fin.ext (by
    match i with
    | 0 => show 0 + 1 * (x 0).val = (x 0).val; omega
    | 1 => show 0 + 1 * (x 1).val = (x 1).val; omega)

/-- A load of the offsets off a buffer that holds them whole. -/
theorem load_add (M : Memref sig .tc .vmem S512x85 .f32) (h : M.IsWhole) (add : Vec F S512x85 .f32) (inb) :
    View.readAt (Elt F) M.view (Rect.unit (s := S512x85) ![0, 0] S512x85.size inb).toLoadRect (h.unread add) = add :=
  funext fun x => (h.readAt_unread add _ x).trans (congrArg add (full_emb x))

/-- A load of a batch row off a slot the block `X` has landed in is that row. -/
theorem load_row {κ : Kind} {sp : Space} (v : View sig κ sp S16x512x255 .f32) (X : Vec F S16x512x255 .f32) (b : Fin 16) (a : Fin 3) :
    v.readCov [⟨Rect.whole S16x512x255, X⟩] (rowRect b a).toLoadRect = xRow X b a := by
  unfold Rect.whole
  rw [View.readCov_fill v _ X [] (rowRect b a) (fun _ => rfl)]
  rfl

/-- One of the sixteen stores: what it writes is the block's, if it is the decoded row over the loads. -/
theorem store_ok {κ : Kind} {sp : Space} (M4 : Memref sig .tc .vmem S6x1x255 .f32) (h4 : M4.IsWhole) (T : Vec F S6x1x255 .f32)
    (v : View sig κ sp S16x512x255 .f32) (X : Vec F S16x512x255 .f32) (add A : Vec F S512x85 .f32) (hA : A = add) (a : Fin 3) (b : Fin 16)
    (P : (outRect b).shape.Idx → Elt F .f32)
    (hP : P = k0_pay41 (View.readAt (Elt F) M4.view (laneRect 0 a).toLoadRect (h4.unread T)) (View.readAt (Elt F) M4.view (laneRect 1 a).toLoadRect (h4.unread T))
      (View.readAt (Elt F) M4.view (laneRect 2 a).toLoadRect (h4.unread T)) (View.readAt (Elt F) M4.view (laneRect 3 a).toLoadRect (h4.unread T)) A
      (v.readCov [⟨Rect.whole S16x512x255, X⟩] (rowRect b a).toLoadRect))
    (x : (outRect b).shape.Idx) : P x = block T add X a ((outRect b).emb x) := by
  rw [block_at, hP, load_lane, load_lane, load_lane, load_lane, load_row, hA]
  rfl

/-- Sixteen stores, newest first, one for each batch row, each writing the block's row, leave the block. -/
theorem stores_block {κ : Kind} {sp : Space} (v : View sig κ sp S85x16x512 .f32) (f : v.ty.Contents (Elt F)) (G : Vec F S85x16x512 .f32)
    (L : List (View.Piece (Elt F) S85x16x512 .f32)) (hG : ∀ p ∈ L, ∀ x : p.1.shape.Idx, p.2 x = G (p.1.emb x))
    (hL : L.map (fun p => p.1) = ((List.finRange 16).map outRect).reverse) : v.read (Elt F) (v.writes (Elt F) f L) = G := by
  funext y
  have hm : outRect (y 1) ∈ L.map (fun p => p.1) := by
    rw [hL, List.mem_reverse]
    exact List.mem_map_of_mem (List.mem_finRange (y 1))
  obtain ⟨p, hp, hpe⟩ := List.mem_map.mp hm
  exact View.read_writes_apply_of_pieces v f G L hG y ⟨p, hp, by rw [hpe]; exact out_mem y (y 1) rfl⟩

/-- The first row of cells of point `i`'s block, as the body computes it. -/
abbrev rowAt (i : grid0.Coords) : BitVec 32 := Scalar.muli (BitVec.ofNat 32 (i 1).val) 8#32

/-- What the body writes as offsets, over its loads of the table's rows 4 and 5. -/
abbrev offsetsStored (M : Memref sig .tc .vmem S6x1x255 .f32) (h : M.IsWhole) (T : Vec F S6x1x255 .f32) (h0 : BitVec 32) : Vec F S512x85 .f32 :=
  k0_pay1 (k0_pay5 (View.readAt (Elt F) M.view (laneRect 4 0).toLoadRect (h.unread T))) (k0_pay6 (View.readAt (Elt F) M.view (laneRect 5 0).toLoadRect (h.unread T)))
    (iota .tc S512x1 32 [0] iota_S512x1_d0_w32) (k0_pay7 (F := F) h0) 64#32

/-- The offsets read back whole are the offsets, -/
theorem add_back (M : Memref sig .tc .vmem S6x1x255 .f32) (h : M.IsWhole) (T : Vec F S6x1x255 .f32) (v : View sig .tc .vmem S512x85 .f32) (h0 : BitVec 32) :
    v.readCov [⟨Rect.unit (s := S512x85) ![0, 0] S512x85.size inb_S512x85_S512x85_0_0, offsetsStored M h T h0⟩]
      (Rect.unit (s := S512x85) ![0, 0] S512x85.size inb_S512x85_S512x85_0_0).toLoadRect = offsets T h0 := by
  rw [View.readCov_cons_toLoadRect]
  unfold offsetsStored
  rw [load_lane, load_lane]
  rfl

/-- and are what the buffer holds. -/
theorem add_left (M : Memref sig .tc .vmem S6x1x255 .f32) (h : M.IsWhole) (T : Vec F S6x1x255 .f32) (v : View sig .tc .vmem S512x85 .f32) (f : v.ty.Contents (Elt F)) (h0 : BitVec 32) :
    v.read (Elt F) (v.writes (Elt F) f [⟨Rect.unit (s := S512x85) ![0, 0] S512x85.size inb_S512x85_S512x85_0_0, offsetsStored M h T h0⟩]) = offsets T h0 := by
  funext x
  have e := View.read_writes_cons_emb v f (Rect.unit (s := S512x85) ![0, 0] S512x85.size inb_S512x85_S512x85_0_0) (offsetsStored M h T h0) [] x
  rw [full_emb] at e
  rw [e]
  unfold offsetsStored
  rw [load_lane, load_lane]
  rfl

/-- What the body is run on at point `t`: the table, the result and the offsets in whole buffers `M4`, `M5` and `M7`. From
    `pre` it runs to `post`. -/
abbrev BodySpec (c : Dev nD) (t : Fin cfg0.N) (M4 : Memref sig .tc .vmem S6x1x255 .f32) (h4 : M4.IsWhole) (M5 : Memref sig .tc .vmem S85x16x512 .f32) (h5 : M5.IsWhole)
    (M7 : Memref sig .tc .vmem S512x85 .f32) (h7 : M7.IsWhole) (pre post : sProp 𝕄) : Prop :=
  ∀ (W : Waits sig Unit) (K : PUnit → sProp 𝕄),
    iprop(pre ∗ owes (c : Thread nD τ) 0 W ∗ (iprop(post ∗ (∃ W', owes (c : Thread nD τ) 0 W')) -∗ K ⟨⟩))
      ⊢ wp frame (wpE (defs₀ (F := F)) Variants.none c none) Set.univ
          (cc0__body (grid0.coords t) (Memref.whole main_v1) (Memref.isWhole_whole _) M4 h4 M5 h5 ringM (Memref.isWhole_whole _) M7 h7 cc0_scratch2) K

end Cert.KernelIdeal.Decode

end
-- ==== Proof.Ideal.RunFirst.lean ====
/- The body at a block's first anchor: the block's transfer ends here, the next block's starts, the offsets are written and
   the block decoded at this anchor. -/
module

public import proofs.«01_k».proof.Proof.Ideal.Rows

@[expose] public section

set_option maxRecDepth 16384

noncomputable section

namespace Cert.KernelIdeal.Decode

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

set_option maxHeartbeats 1000000 in
/-- The body at the first anchor of the first block: both transfers start, the first one ends, the offsets are written, the
    block decoded. -/
theorem run_start (c : Dev nD) (t : Fin cfg0.N) (M4 : Memref sig .tc .vmem S6x1x255 .f32) (h4 : M4.IsWhole) (M5 : Memref sig .tc .vmem S85x16x512 .f32) (h5 : M5.IsWhole)
    (M7 : Memref sig .tc .vmem S512x85 .f32) (h7 : M7.IsWhole)
    (hc0 : cStep (grid0.coords t)) (hc1 : cFirst (grid0.coords t)) (hc2 : cMore (grid0.coords t)) (hc3 : cA0 (grid0.coords t)) (hc4 : ¬cA1 (grid0.coords t))
    (hc5 : ¬cA2 (grid0.coords t)) (T : Vec F S6x1x255 .f32) (W : MBuf (F := F) c xM) :
    BodySpec c t M4 h4 M5 h5 M7 h7
      iprop(owns (c : Thread nD τ) M4 fullShare T ∗ (∃ d, owns (c : Thread nD τ) M5 fullShare d) ∗ (∃ d, owns (c : Thread nD τ) M7 fullShare d)
        ∗ Ring.free (cellP c) (slotW c W) (Ring.sl 2 (stepAt t.val)) ∗ Ring.free (cellP c) (slotW c W) (Ring.sl 2 (stepAt t.val + 1)))
      iprop(owns (c : Thread nD τ) M4 fullShare T
        ∗ owns (c : Thread nD τ) M5 fullShare (block T (offsets T (rowAt (grid0.coords t))) ((blkM (Ring.bk 16 (stepAt t.val))).view.read (Elt F) W) 0)
        ∗ owns (c : Thread nD τ) M7 fullShare (offsets T (rowAt (grid0.coords t)))
        ∗ Ring.inflight (flightW c W) (Ring.sl 2 (stepAt t.val + 1)) (Ring.bk 16 (stepAt t.val + 1)) ∗ Ring.kept (cellP c) (slotW c W) (landed c W) (Ring.sl 2 (stepAt t.val)) (Ring.bk 16 (stepAt t.val))) := by
  intro w K
  haveI : Fact (cStep (grid0.coords t)) := ⟨hc0⟩
  haveI : Fact (cFirst (grid0.coords t)) := ⟨hc1⟩
  haveI : Fact (cMore (grid0.coords t)) := ⟨hc2⟩
  haveI : Fact (cA0 (grid0.coords t)) := ⟨hc3⟩
  haveI : Fact (¬cA1 (grid0.coords t)) := ⟨hc4⟩
  haveI : Fact (¬cA2 (grid0.coords t)) := ⟨hc5⟩
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  have hcanon0 := name_first_slot t hc0 hc1
  have hcanon1 := name_first_cell t hc0 hc1
  have hcanon2 := name_first_blk t hc0 hc1
  have hcanon3 := name_next_slot t hc0 hc2
  have hcanon4 := name_next_cell t hc0 hc2
  have hcanon5 := name_next_blk t hc0 hc2
  have hcanon6 := name_wait_slot t hc0
  have hcanon7 := name_wait_cell t hc0
  have hcanon8 := name_read0_slot t hc3
  unfold owns Ring.kept Ring.free Ring.inflight
  iintro ⟨⟨⟨%f0, %hf0, H0⟩, ⟨%d1, %f1, -, H1⟩, ⟨%ds, %fs, -, HS⟩, ⟨Hc, ⟨%fr, Hs, Hw⟩⟩, ⟨Hn, ⟨%fn, Hns, Hnw⟩⟩⟩, HW, Hk⟩
  ihave Hsp := (copy_split c W (Ring.sl 2 (stepAt t.val)) (Ring.bk 16 (stepAt t.val))).1 $$ Hw
  icases Hsp with ⟨Hh, Hr⟩
  ihave Hnsp := (copy_split c W (Ring.sl 2 (stepAt t.val + 1)) (Ring.bk 16 (stepAt t.val + 1))).1 $$ Hnw
  icases Hnsp with ⟨Hnh, Hnr⟩
  obtain rfl := h4.eq_unread hf0
  sl_exec (disch := first | sl_exact hc0 | sl_exact hc1 | sl_exact hc2 | sl_exact hc3 | sl_exact hc4 | sl_exact hc5)
  sl_step
  iapply Hk
  isplitr [HW]; swap; · iexists _; iexact HW
  isplitl [H0]
  · iexists _; isplitr; · ipureintro; exact h4.read_unread _
    iexact H0
  isplitl [H1]
  · iexists _; isplitr; swap; · iexact H1
    ipureintro
    refine stores_block _ _ _ _ ?_ rfl
    simp only [List.forall_mem_cons]
    have hp := fun b P hP => store_ok M4 h4 T (slotM (Ring.sl 2 (stepAt t.val))).view ((blkM (Ring.bk 16 (stepAt t.val))).view.read (Elt F) W) (offsets T (rowAt (grid0.coords t))) _
      (add_back M4 h4 T M7.view (rowAt (grid0.coords t))) 0 b P hP
    refine ⟨hp 15 _ ?_, hp 14 _ ?_, hp 13 _ ?_, hp 12 _ ?_, hp 11 _ ?_, hp 10 _ ?_, hp 9 _ ?_, hp 8 _ ?_, hp 7 _ ?_, hp 6 _ ?_, hp 5 _ ?_, hp 4 _ ?_, hp 3 _ ?_, hp 2 _ ?_,
      hp 1 _ ?_, hp 0 _ ?_, fun _ h => absurd h List.not_mem_nil⟩
    all_goals congr 1
  isplitl [HS]
  · iexists _; isplitr; swap; · iexact HS
    ipureintro
    exact add_left M4 h4 T M7.view _ (rowAt (grid0.coords t))
  isplitl [Hn Hnr]
  · iexists _; isplitl [Hn]; · iexact Hn
    iexact Hnr
  isplitl [Hc]; · iexact Hc
  iexists _; isplitl [Hs]; · iexact Hs
  iapply (copy_split c W (Ring.sl 2 (stepAt t.val)) (Ring.bk 16 (stepAt t.val))).2; isplitl [Hh]; · iexact Hh
  iexact Hr

set_option maxHeartbeats 1000000 in
/-- The body at the first anchor of a block in the middle: the block's transfer ends, the next one's starts. -/
theorem run_next (c : Dev nD) (t : Fin cfg0.N) (M4 : Memref sig .tc .vmem S6x1x255 .f32) (h4 : M4.IsWhole) (M5 : Memref sig .tc .vmem S85x16x512 .f32) (h5 : M5.IsWhole)
    (M7 : Memref sig .tc .vmem S512x85 .f32) (h7 : M7.IsWhole)
    (hc0 : cStep (grid0.coords t)) (hc1 : ¬cFirst (grid0.coords t)) (hc2 : cMore (grid0.coords t)) (hc3 : cA0 (grid0.coords t)) (hc4 : ¬cA1 (grid0.coords t))
    (hc5 : ¬cA2 (grid0.coords t)) (T : Vec F S6x1x255 .f32) (W : MBuf (F := F) c xM) :
    BodySpec c t M4 h4 M5 h5 M7 h7
      iprop(owns (c : Thread nD τ) M4 fullShare T ∗ (∃ d, owns (c : Thread nD τ) M5 fullShare d) ∗ (∃ d, owns (c : Thread nD τ) M7 fullShare d)
        ∗ Ring.inflight (flightW c W) (Ring.sl 2 (stepAt t.val)) (Ring.bk 16 (stepAt t.val)) ∗ Ring.kept (cellP c) (slotW c W) (landed c W) (Ring.sl 2 (stepAt t.val + 1)) (Ring.bk 16 (stepAt t.val - 1)))
      iprop(owns (c : Thread nD τ) M4 fullShare T
        ∗ owns (c : Thread nD τ) M5 fullShare (block T (offsets T (rowAt (grid0.coords t))) ((blkM (Ring.bk 16 (stepAt t.val))).view.read (Elt F) W) 0)
        ∗ owns (c : Thread nD τ) M7 fullShare (offsets T (rowAt (grid0.coords t)))
        ∗ Ring.inflight (flightW c W) (Ring.sl 2 (stepAt t.val + 1)) (Ring.bk 16 (stepAt t.val + 1)) ∗ Ring.kept (cellP c) (slotW c W) (landed c W) (Ring.sl 2 (stepAt t.val)) (Ring.bk 16 (stepAt t.val))) := by
  intro w K
  haveI : Fact (cStep (grid0.coords t)) := ⟨hc0⟩
  haveI : Fact (¬cFirst (grid0.coords t)) := ⟨hc1⟩
  haveI : Fact (cMore (grid0.coords t)) := ⟨hc2⟩
  haveI : Fact (cA0 (grid0.coords t)) := ⟨hc3⟩
  haveI : Fact (¬cA1 (grid0.coords t)) := ⟨hc4⟩
  haveI : Fact (¬cA2 (grid0.coords t)) := ⟨hc5⟩
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  have hcanon0 := name_next_slot t hc0 hc2
  have hcanon1 := name_next_cell t hc0 hc2
  have hcanon2 := name_next_blk t hc0 hc2
  have hcanon3 := name_wait_slot t hc0
  have hcanon4 := name_wait_cell t hc0
  have hcanon5 := name_read0_slot t hc3
  unfold owns Ring.kept Ring.inflight
  iintro ⟨⟨⟨%f0, %hf0, H0⟩, ⟨%d1, %f1, -, H1⟩, ⟨%ds, %fs, -, HS⟩, ⟨%ff, Hf, Hr⟩, ⟨Hn, ⟨%fn, Hns, Hnw⟩⟩⟩, HW, Hk⟩
  ihave Hnsp := (copy_split c W (Ring.sl 2 (stepAt t.val + 1)) (Ring.bk 16 (stepAt t.val + 1))).1 $$ Hnw
  icases Hnsp with ⟨Hnh, Hnr⟩
  obtain rfl := h4.eq_unread hf0
  sl_exec (disch := first | sl_exact hc0 | sl_exact hc1 | sl_exact hc2 | sl_exact hc3 | sl_exact hc4 | sl_exact hc5)
  sl_step
  iapply Hk
  isplitr [HW]; swap; · iexists _; iexact HW
  isplitl [H0]
  · iexists _; isplitr; · ipureintro; exact h4.read_unread _
    iexact H0
  isplitl [H1]
  · iexists _; isplitr; swap; · iexact H1
    ipureintro
    refine stores_block _ _ _ _ ?_ rfl
    simp only [List.forall_mem_cons]
    have hp := fun b P hP => store_ok M4 h4 T (slotM (Ring.sl 2 (stepAt t.val))).view ((blkM (Ring.bk 16 (stepAt t.val))).view.read (Elt F) W) (offsets T (rowAt (grid0.coords t))) _
      (add_back M4 h4 T M7.view (rowAt (grid0.coords t))) 0 b P hP
    refine ⟨hp 15 _ ?_, hp 14 _ ?_, hp 13 _ ?_, hp 12 _ ?_, hp 11 _ ?_, hp 10 _ ?_, hp 9 _ ?_, hp 8 _ ?_, hp 7 _ ?_, hp 6 _ ?_, hp 5 _ ?_, hp 4 _ ?_, hp 3 _ ?_, hp 2 _ ?_,
      hp 1 _ ?_, hp 0 _ ?_, fun _ h => absurd h List.not_mem_nil⟩
    all_goals congr 1
  isplitl [HS]
  · iexists _; isplitr; swap; · iexact HS
    ipureintro
    exact add_left M4 h4 T M7.view _ (rowAt (grid0.coords t))
  isplitl [Hn Hnr]
  · iexists _; isplitl [Hn]; · iexact Hn
    iexact Hnr
  isplitl [Hf]; · iexact Hf
  iexists _; isplitl [Hf_dst]; · iexact Hf_dst
  iapply (copy_split c W (Ring.sl 2 (stepAt t.val)) (Ring.bk 16 (stepAt t.val))).2; isplitl [Hf_src]; · iexact Hf_src
  iexact Hr

set_option maxHeartbeats 1000000 in
/-- The body at the first anchor of the last block: its transfer ends, none starts. -/
theorem run_last (c : Dev nD) (t : Fin cfg0.N) (M4 : Memref sig .tc .vmem S6x1x255 .f32) (h4 : M4.IsWhole) (M5 : Memref sig .tc .vmem S85x16x512 .f32) (h5 : M5.IsWhole)
    (M7 : Memref sig .tc .vmem S512x85 .f32) (h7 : M7.IsWhole)
    (hc0 : cStep (grid0.coords t)) (hc1 : ¬cFirst (grid0.coords t)) (hc2 : ¬cMore (grid0.coords t)) (hc3 : cA0 (grid0.coords t)) (hc4 : ¬cA1 (grid0.coords t))
    (hc5 : ¬cA2 (grid0.coords t)) (T : Vec F S6x1x255 .f32) (W : MBuf (F := F) c xM) :
    BodySpec c t M4 h4 M5 h5 M7 h7
      iprop(owns (c : Thread nD τ) M4 fullShare T ∗ (∃ d, owns (c : Thread nD τ) M5 fullShare d) ∗ (∃ d, owns (c : Thread nD τ) M7 fullShare d)
        ∗ Ring.inflight (flightW c W) (Ring.sl 2 (stepAt t.val)) (Ring.bk 16 (stepAt t.val)))
      iprop(owns (c : Thread nD τ) M4 fullShare T
        ∗ owns (c : Thread nD τ) M5 fullShare (block T (offsets T (rowAt (grid0.coords t))) ((blkM (Ring.bk 16 (stepAt t.val))).view.read (Elt F) W) 0)
        ∗ owns (c : Thread nD τ) M7 fullShare (offsets T (rowAt (grid0.coords t)))
        ∗ Ring.kept (cellP c) (slotW c W) (landed c W) (Ring.sl 2 (stepAt t.val)) (Ring.bk 16 (stepAt t.val))) := by
  intro w K
  haveI : Fact (cStep (grid0.coords t)) := ⟨hc0⟩
  haveI : Fact (¬cFirst (grid0.coords t)) := ⟨hc1⟩
  haveI : Fact (¬cMore (grid0.coords t)) := ⟨hc2⟩
  haveI : Fact (cA0 (grid0.coords t)) := ⟨hc3⟩
  haveI : Fact (¬cA1 (grid0.coords t)) := ⟨hc4⟩
  haveI : Fact (¬cA2 (grid0.coords t)) := ⟨hc5⟩
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  have hcanon0 := name_wait_slot t hc0
  have hcanon1 := name_wait_cell t hc0
  have hcanon2 := name_read0_slot t hc3
  unfold owns Ring.kept Ring.inflight
  iintro ⟨⟨⟨%f0, %hf0, H0⟩, ⟨%d1, %f1, -, H1⟩, ⟨%ds, %fs, -, HS⟩, ⟨%ff, Hf, Hr⟩⟩, HW, Hk⟩
  obtain rfl := h4.eq_unread hf0
  sl_exec (disch := first | sl_exact hc0 | sl_exact hc1 | sl_exact hc2 | sl_exact hc3 | sl_exact hc4 | sl_exact hc5)
  sl_step
  iapply Hk
  isplitr [HW]; swap; · iexists _; iexact HW
  isplitl [H0]
  · iexists _; isplitr; · ipureintro; exact h4.read_unread _
    iexact H0
  isplitl [H1]
  · iexists _; isplitr; swap; · iexact H1
    ipureintro
    refine stores_block _ _ _ _ ?_ rfl
    simp only [List.forall_mem_cons]
    have hp := fun b P hP => store_ok M4 h4 T (slotM (Ring.sl 2 (stepAt t.val))).view ((blkM (Ring.bk 16 (stepAt t.val))).view.read (Elt F) W) (offsets T (rowAt (grid0.coords t))) _
      (add_back M4 h4 T M7.view (rowAt (grid0.coords t))) 0 b P hP
    refine ⟨hp 15 _ ?_, hp 14 _ ?_, hp 13 _ ?_, hp 12 _ ?_, hp 11 _ ?_, hp 10 _ ?_, hp 9 _ ?_, hp 8 _ ?_, hp 7 _ ?_, hp 6 _ ?_, hp 5 _ ?_, hp 4 _ ?_, hp 3 _ ?_, hp 2 _ ?_,
      hp 1 _ ?_, hp 0 _ ?_, fun _ h => absurd h List.not_mem_nil⟩
    all_goals congr 1
  isplitl [HS]
  · iexists _; isplitr; swap; · iexact HS
    ipureintro
    exact add_left M4 h4 T M7.view _ (rowAt (grid0.coords t))
  isplitl [Hf]; · iexact Hf
  iexists _; isplitl [Hf_dst]; · iexact Hf_dst
  iapply (copy_split c W (Ring.sl 2 (stepAt t.val)) (Ring.bk 16 (stepAt t.val))).2; isplitl [Hf_src]; · iexact Hf_src
  iexact Hr

end Cert.KernelIdeal.Decode

end
-- ==== Proof.Ideal.RunLater.lean ====
/- The body at the second and third anchors of a block: both read the block that landed at the first and the offsets written
   then. -/
module

public import proofs.«01_k».proof.Proof.Ideal.Rows

@[expose] public section

set_option maxRecDepth 16384

noncomputable section

namespace Cert.KernelIdeal.Decode

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

set_option maxHeartbeats 1000000 in
/-- The body at a block's second anchor: no transfer starts or ends; the result's buffer is left at the decoded block, the
    offsets and the landed block as they were. -/
theorem run_second (c : Dev nD) (t : Fin cfg0.N) (M4 : Memref sig .tc .vmem S6x1x255 .f32) (h4 : M4.IsWhole) (M5 : Memref sig .tc .vmem S85x16x512 .f32) (h5 : M5.IsWhole)
    (M7 : Memref sig .tc .vmem S512x85 .f32) (h7 : M7.IsWhole)
    (hc0 : ¬cStep (grid0.coords t)) (hc3 : ¬cA0 (grid0.coords t)) (hc4 : cA1 (grid0.coords t)) (hc5 : ¬cA2 (grid0.coords t))
    (T : Vec F S6x1x255 .f32) (add : Vec F S512x85 .f32) (W : MBuf (F := F) c xM) :
    BodySpec c t M4 h4 M5 h5 M7 h7
      iprop(owns (c : Thread nD τ) M4 fullShare T ∗ (∃ d, owns (c : Thread nD τ) M5 fullShare d) ∗ owns (c : Thread nD τ) M7 fullShare add
        ∗ Ring.kept (cellP c) (slotW c W) (landed c W) (Ring.sl 2 (stepAt t.val + 1)) (Ring.bk 16 (stepAt t.val - 1)))
      iprop(owns (c : Thread nD τ) M4 fullShare T ∗ owns (c : Thread nD τ) M5 fullShare (block T add ((blkM (Ring.bk 16 (stepAt t.val - 1))).view.read (Elt F) W) 1)
        ∗ owns (c : Thread nD τ) M7 fullShare add ∗ Ring.kept (cellP c) (slotW c W) (landed c W) (Ring.sl 2 (stepAt t.val + 1)) (Ring.bk 16 (stepAt t.val - 1))) := by
  intro w K
  haveI : Fact (¬cStep (grid0.coords t)) := ⟨hc0⟩
  haveI : Fact (¬cA0 (grid0.coords t)) := ⟨hc3⟩
  haveI : Fact (cA1 (grid0.coords t)) := ⟨hc4⟩
  haveI : Fact (¬cA2 (grid0.coords t)) := ⟨hc5⟩
  simp only [cc0__body_eq_skeleton]; unfold cc0__body_skel
  simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  have hcanon0 := name_read1_slot t hc4
  unfold owns Ring.kept
  iintro ⟨⟨⟨%f0, %hf0, H0⟩, ⟨%d1, %f1, -, H1⟩, ⟨%fs1, %hfs1, HS⟩, ⟨Hc, ⟨%fr, Hs, Hw⟩⟩⟩, HW, Hk⟩
  obtain rfl := h4.eq_unread hf0
  obtain rfl := h7.eq_unread hfs1
  sl_exec (disch := first | sl_exact hc0 | sl_exact hc3 | sl_exact hc4 | sl_exact hc5)
  sl_step
  iapply Hk
  isplitr [HW]; swap; · iexists _; iexact HW
  isplitl [H0]
  · iexists _; isplitr; · ipureintro; exact h4.read_unread _
    iexact H0
  isplitl [H1]
  · iexists _; isplitr; swap; · iexact H1
    ipureintro
    refine stores_block _ _ _ _ ?_ rfl
    simp only [List.forall_mem_cons]
    have hp := fun b P hP => store_ok M4 h4 T (slotM (Ring.sl 2 (stepAt t.val + 1))).view ((blkM (Ring.bk 16 (stepAt t.val - 1))).view.read (Elt F) W) add _
      (load_add M7 h7 add inb_S512x85_S512x85_0_0) 1 b P hP
    refine ⟨hp 15 _ ?_, hp 14 _ ?_, hp 13 _ ?_, hp 12 _ ?_, hp 11 _ ?_, hp 10 _ ?_, hp 9 _ ?_, hp 8 _ ?_, hp 7 _ ?_, hp 6 _ ?_, hp 5 _ ?_, hp 4 _ ?_, hp 3 _ ?_, hp 2 _ ?_,
      hp 1 _ ?_, hp 0 _ ?_, fun _ h => absurd h List.not_mem_nil⟩
    all_goals congr 1
  isplitl [HS]
  · iexists _; isplitr; · ipureintro; exact h7.read_unread _
    iexact HS
  isplitl [Hc]; · iexact Hc
  iexists _; isplitl [Hs]; · iexact Hs
  iexact Hw

set_option maxHeartbeats 1000000 in
/-- The body at a block's third anchor: no transfer starts or ends; the result's buffer is left at the decoded block, the
    offsets and the landed block as they were. -/
theorem run_third (c : Dev nD) (t : Fin cfg0.N) (M4 : Memref sig .tc .vmem S6x1x255 .f32) (h4 : M4.IsWhole) (M5 : Memref sig .tc .vmem S85x16x512 .f32) (h5 : M5.IsWhole)
    (M7 : Memref sig .tc .vmem S512x85 .f32) (h7 : M7.IsWhole)
    (hc0 : ¬cStep (grid0.coords t)) (hc3 : ¬cA0 (grid0.coords t)) (hc4 : ¬cA1 (grid0.coords t)) (hc5 : cA2 (grid0.coords t))
    (T : Vec F S6x1x255 .f32) (add : Vec F S512x85 .f32) (W : MBuf (F := F) c xM) :
    BodySpec c t M4 h4 M5 h5 M7 h7
      iprop(owns (c : Thread nD τ) M4 fullShare T ∗ (∃ d, owns (c : Thread nD τ) M5 fullShare d) ∗ owns (c : Thread nD τ) M7 fullShare add
        ∗ Ring.kept (cellP c) (slotW c W) (landed c W) (Ring.sl 2 (stepAt t.val + 1)) (Ring.bk 16 (stepAt t.val - 1)))
      iprop(owns (c : Thread nD τ) M4 fullShare T ∗ owns (c : Thread nD τ) M5 fullShare (block T add ((blkM (Ring.bk 16 (stepAt t.val - 1))).view.read (Elt F) W) 2)
        ∗ owns (c : Thread nD τ) M7 fullShare add ∗ Ring.kept (cellP c) (slotW c W) (landed c W) (Ring.sl 2 (stepAt t.val + 1)) (Ring.bk 16 (stepAt t.val - 1))) := by
  intro w K
  haveI : Fact (¬cStep (grid0.coords t)) := ⟨hc0⟩
  haveI : Fact (¬cA0 (grid0.coords t)) := ⟨hc3⟩
  haveI : Fact (¬cA1 (grid0.coords t)) := ⟨hc4⟩
  haveI : Fact (cA2 (grid0.coords t)) := ⟨hc5⟩
  simp only [cc0__body_eq_skeleton]; unfold cc0__body_skel
  simp only [k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  have hcanon0 := name_read2_slot t hc5
  unfold owns Ring.kept
  iintro ⟨⟨⟨%f0, %hf0, H0⟩, ⟨%d1, %f1, -, H1⟩, ⟨%fs1, %hfs1, HS⟩, ⟨Hc, ⟨%fr, Hs, Hw⟩⟩⟩, HW, Hk⟩
  obtain rfl := h4.eq_unread hf0
  obtain rfl := h7.eq_unread hfs1
  sl_exec (disch := first | sl_exact hc0 | sl_exact hc3 | sl_exact hc4 | sl_exact hc5)
  sl_step
  iapply Hk
  isplitr [HW]; swap; · iexists _; iexact HW
  isplitl [H0]
  · iexists _; isplitr; · ipureintro; exact h4.read_unread _
    iexact H0
  isplitl [H1]
  · iexists _; isplitr; swap; · iexact H1
    ipureintro
    refine stores_block _ _ _ _ ?_ rfl
    simp only [List.forall_mem_cons]
    have hp := fun b P hP => store_ok M4 h4 T (slotM (Ring.sl 2 (stepAt t.val + 1))).view ((blkM (Ring.bk 16 (stepAt t.val - 1))).view.read (Elt F) W) add _
      (load_add M7 h7 add inb_S512x85_S512x85_0_0) 2 b P hP
    refine ⟨hp 15 _ ?_, hp 14 _ ?_, hp 13 _ ?_, hp 12 _ ?_, hp 11 _ ?_, hp 10 _ ?_, hp 9 _ ?_, hp 8 _ ?_, hp 7 _ ?_, hp 6 _ ?_, hp 5 _ ?_, hp 4 _ ?_, hp 3 _ ?_, hp 2 _ ?_,
      hp 1 _ ?_, hp 0 _ ?_, fun _ h => absurd h List.not_mem_nil⟩
    all_goals congr 1
  isplitl [HS]
  · iexists _; isplitr; · ipureintro; exact h7.read_unread _
    iexact HS
  isplitl [Hc]; · iexact Hc
  iexists _; isplitl [Hs]; · iexact Hs
  iexact Hw

end Cert.KernelIdeal.Decode

end
-- ==== Proof.Ideal.Step.lean ====
/- What holds before every grid point, the body's step from one point to the next, and the proof data of the pipeline. -/
module

public import proofs.«01_k».proof.Proof.Ideal.RunFirst
public import proofs.«01_k».proof.Proof.Ideal.RunLater

@[expose] public section

set_option maxRecDepth 16384

noncomputable section

namespace Cert.KernelIdeal.Decode

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-! ## The ring's pieces at a point -/

section Pieces
variable (c : Dev nD) (W : MBuf (F := F) c xM)

/-- Before the first step both slots are free; -/
theorem ring_free (s : ℕ) (h : s = 0) : ringAt c W s ⊢ iprop(Ring.free (cellP c) (slotW c W) (Ring.sl 2 s) ∗ Ring.free (cellP c) (slotW c W) (Ring.sl 2 (s + 1))) := by
  unfold ringAt; rw [if_pos h, Ring.At₀_eq2' _ _ _ s h (by decide : 2 ≤ 16)]
  iintro ⟨-, H⟩; iexact H
/-- after it the second block is under way and the first one kept. -/
theorem ring_started (s : ℕ) (h : s = 0) :
    iprop(Ring.inflight (flightW c W) (Ring.sl 2 (s + 1)) (Ring.bk 16 (s + 1)) ∗ Ring.kept (cellP c) (slotW c W) (landed c W) (Ring.sl 2 s) (Ring.bk 16 s)) ⊢ ringAt c W (s + 1) := by
  unfold ringAt; rw [if_neg (Nat.succ_ne_zero s), Ring.AtK2_one' _ _ _ _ _ s h (by decide : 1 < 16)]
  exact Ring.with_homes₀
/-- Before a step in the middle the step's block is under way and the one before it kept; -/
theorem ring_here (s : ℕ) (h : 1 ≤ s) (h' : s + 1 < 16) : ringAt c W s
    ⊢ iprop(Ring.inflight (flightW c W) (Ring.sl 2 s) (Ring.bk 16 s) ∗ Ring.kept (cellP c) (slotW c W) (landed c W) (Ring.sl 2 (s + 1)) (Ring.bk 16 (s - 1))) := by
  unfold ringAt; rw [if_neg (Nat.ne_of_gt h), Ring.AtK2_here _ _ _ _ _ s h h']
  iintro ⟨-, H⟩; iexact H
/-- after it the next block is under way and the step's kept. -/
theorem ring_next (s : ℕ) (h : 1 ≤ s) (h' : s + 1 < 16) :
    iprop(Ring.inflight (flightW c W) (Ring.sl 2 (s + 1)) (Ring.bk 16 (s + 1)) ∗ Ring.kept (cellP c) (slotW c W) (landed c W) (Ring.sl 2 s) (Ring.bk 16 s)) ⊢ ringAt c W (s + 1) := by
  unfold ringAt; rw [if_neg (Nat.succ_ne_zero s), Ring.AtK2_next _ _ _ _ _ s h h']
  exact Ring.with_homes (Idealize.SL.BI.Entails.refl _)
/-- Before the last step its block is under way and the one before it kept; -/
theorem ring_here_last (s : ℕ) (h : 1 ≤ s) (h' : s + 1 = 16) : ringAt c W s
    ⊢ iprop(Ring.inflight (flightW c W) (Ring.sl 2 s) (Ring.bk 16 s) ∗ Ring.kept (cellP c) (slotW c W) (landed c W) (Ring.sl 2 (s + 1)) (Ring.bk 16 (s - 1))) := by
  unfold ringAt; rw [if_neg (Nat.ne_of_gt h), Ring.AtK2_here_last _ _ _ _ _ s h h']
  iintro ⟨-, H⟩; iexact H
/-- after it both are kept. -/
theorem ring_next_last (s : ℕ) (h : 1 ≤ s) (h' : s + 1 = 16) :
    iprop(Ring.kept (cellP c) (slotW c W) (landed c W) (Ring.sl 2 (s + 1)) (Ring.bk 16 (s - 1)) ∗ Ring.kept (cellP c) (slotW c W) (landed c W) (Ring.sl 2 s) (Ring.bk 16 s)) ⊢ ringAt c W (s + 1) := by
  unfold ringAt; rw [if_neg (Nat.succ_ne_zero s), Ring.AtK2_next_last _ _ _ _ _ s h h']
  exact Ring.with_homes (Idealize.SL.BI.Entails.refl _)
/-- Between two steps the block of the step before is kept, beside what does not matter then. -/
theorem ring_kept (s : ℕ) (h : 1 ≤ s) (h' : s ≤ 16) : ∃ R : sProp 𝕄,
    (ringAt c W s ⊢ iprop(Ring.kept (cellP c) (slotW c W) (landed c W) (Ring.sl 2 (s + 1)) (Ring.bk 16 (s - 1)) ∗ R))
    ∧ (iprop(Ring.kept (cellP c) (slotW c W) (landed c W) (Ring.sl 2 (s + 1)) (Ring.bk 16 (s - 1)) ∗ R) ⊢ ringAt c W s) := by
  have key : ∃ A B : sProp 𝕄, ringAt c W s = iprop(A ∗ B ∗ Ring.kept (cellP c) (slotW c W) (landed c W) (Ring.sl 2 (s + 1)) (Ring.bk 16 (s - 1))) := by
    unfold ringAt; rw [if_neg (Nat.ne_of_gt h)]
    rcases (show s + 1 < 16 ∨ s + 1 = 16 ∨ s = 16 by omega) with hs | hs | hs
    · exact ⟨_, _, Ring.AtK2_here _ _ _ _ _ s h hs⟩
    · exact ⟨_, _, Ring.AtK2_here_last _ _ _ _ _ s h hs⟩
    · exact ⟨_, _, Ring.AtK2_end' _ _ _ _ _ s hs (by omega)⟩
  obtain ⟨A, B, e⟩ := key
  refine ⟨iprop(A ∗ B), ?_, ?_⟩
  · rw [e]; iintro ⟨HA, HB, HK⟩
    isplitl [HK]; · iexact HK
    isplitl [HA]; · iexact HA
    iexact HB
  · rw [e]; iintro ⟨HK, HA, HB⟩
    isplitl [HA]; · iexact HA
    isplitl [HB]; · iexact HB
    iexact HK

end Pieces

/-! ## The invariant -/

/-- The table as the body reads it. -/
def table (c : Dev nD) : Vec F S6x1x255 .f32 := iblk m c 0 0
theorem table_eq (c : Dev nD) (t : Fin cfg0.N) : iblk m c 0 t = table m c := rfl
/-- The offsets at grid point `k`. -/
def offsAt (c : Dev nD) (k : ℕ) : Vec F S512x85 .f32 := offsets (table m c) (Scalar.muli (BitVec.ofNat 32 (k / 3 % 8)) 8#32)
/-- The block of the transposed input at grid point `k`. -/
def xAt (c : Dev nD) (k : ℕ) : Vec F S16x512x255 .f32 := (blkM (Ring.bk 16 (k / 3))).view.read (Elt F) (V m c main_v1)
/-- The anchor of grid point `k`. -/
def anchorAt (k : ℕ) : Fin 3 := ⟨k % 3, Nat.mod_lt _ (by decide)⟩
/-- What the body leaves in the result's buffer at grid point `k`. -/
def blockAt (c : Dev nD) (k : ℕ) : Vec F S85x16x512 .f32 := block (table m c) (offsAt m c k) (xAt m c k) (anchorAt k)

/-- The offsets' buffer before point `k`: between a block's points it holds the block's offsets. -/
def addAt (c : Dev nD) (k : ℕ) : sProp 𝕄 := if k % 3 = 0 then iprop(∃ d, owns (c : Thread nD τ) addM fullShare d) else owns (c : Thread nD τ) addM fullShare (offsAt m c k)
/-- What holds before point `k`. -/
def inv (c : Dev nD) (k : ℕ) : sProp 𝕄 := iprop(addAt m c k ∗ (∃ r, prngReg c r) ∗ ringAt c (V m c main_v1) (stepAt k))

theorem coord_row : ∀ t : Fin grid0.N, ((grid0.coords t) 1).val = t.val / 3 % 8 := by decide +kernel

theorem offsAt_row (c : Dev nD) (t : Fin cfg0.N) : offsets (table m c) (rowAt (grid0.coords t)) = offsAt m c t.val := by
  unfold offsAt rowAt; rw [coord_row t]
theorem offsAt_succ (c : Dev nD) (k : ℕ) (h : k % 3 ≠ 2) : offsAt m c (k + 1) = offsAt m c k := by
  unfold offsAt; rw [show (k + 1) / 3 = k / 3 by omega]

/-- A run of the body, its two ends restated over more than it touches. -/
theorem BodySpec.within {c : Dev nD} {t : Fin cfg0.N} {M4 : Memref sig .tc .vmem S6x1x255 .f32} {h4 : M4.IsWhole} {M5 : Memref sig .tc .vmem S85x16x512 .f32} {h5 : M5.IsWhole}
    {M7 : Memref sig .tc .vmem S512x85 .f32} {h7 : M7.IsWhole} {pre post P Q : sProp 𝕄} (R : sProp 𝕄) (h : BodySpec c t M4 h4 M5 h5 M7 h7 pre post)
    (hP : P ⊢ iprop(pre ∗ R)) (hQ : iprop(post ∗ R) ⊢ Q) : BodySpec c t M4 h4 M5 h5 M7 h7 P Q := by
  intro W K
  iintro ⟨HP, HW, Hk⟩
  ihave HP' := hP $$ HP
  icases HP' with ⟨Hpre, HR⟩
  iapply (h W K)
  isplitl [Hpre]; · iexact Hpre
  isplitl [HW]; · iexact HW
  iintro ⟨Hpost, HW'⟩
  iapply Hk
  isplitr [HW']; swap; · iexact HW'
  iapply hQ
  isplitl [Hpost]; · iexact Hpost
  iexact HR

set_option maxHeartbeats 1000000 in
/-- THE STEP: at every point the body takes the invariant to the next point's and leaves the point's block. -/
theorem step (c : Dev nD) (t : Fin cfg0.N) :
    BodySpec c t (tabM t) (tabM_whole t) (outM t) (outM_whole t) addM (Memref.isWhole_whole _)
      iprop(inv m c t.val ∗ owns (c : Thread nD τ) (tabM t) fullShare (table m c) ∗ (∃ d, owns (c : Thread nD τ) (outM t) fullShare d))
      iprop(inv m c (t.val + 1) ∗ owns (c : Thread nD τ) (tabM t) fullShare (table m c) ∗ owns (c : Thread nD τ) (outM t) fullShare (blockAt m c t.val)) := by
  have hN : t.val < 48 := lt_of_lt_of_eq t.isLt (show cfg0.N = 48 from N_0)
  unfold inv addAt blockAt xAt
  by_cases h0 : t.val % 3 = 0
  · rw [if_pos h0, if_neg (show ¬(t.val + 1) % 3 = 0 by omega), offsAt_succ m c t.val (by omega), ← offsAt_row m c t,
      show anchorAt t.val = 0 from Fin.ext h0, show t.val / 3 = stepAt t.val by unfold stepAt; omega, show stepAt (t.val + 1) = stepAt t.val + 1 by unfold stepAt; omega]
    have c0 := (cStep_iff t).mpr h0
    have c3 := (cA0_iff t).mpr h0
    have c4 : ¬cA1 (grid0.coords t) := fun h => by have := (cA1_iff t).mp h; omega
    have c5 : ¬cA2 (grid0.coords t) := fun h => by have := (cA2_iff t).mp h; omega
    by_cases h1 : t.val < 3
    · have hs : stepAt t.val = 0 := by unfold stepAt; omega
      refine (run_start c t (tabM t) (tabM_whole t) (outM t) (outM_whole t) addM (Memref.isWhole_whole _) c0 ((cFirst_iff t).mpr h1) ((cMore_iff t).mpr (by omega)) c3 c4 c5
        (table m c) (V m c main_v1)).within iprop(∃ r, prngReg c r) ?_ ?_
      · iintro ⟨⟨HS, Hg, HR⟩, H0, H1⟩
        isplitr [Hg]; swap; · iexact Hg
        isplitl [H0]; · iexact H0
        isplitl [H1]; · iexact H1
        isplitl [HS]; · iexact HS
        iapply (ring_free c (V m c main_v1) (stepAt t.val) hs); iexact HR
      · iintro ⟨⟨H0, H1, HS, HR⟩, Hg⟩
        isplitr [H0 H1]; swap
        · isplitl [H0]; · iexact H0
          iexact H1
        isplitl [HS]; · iexact HS
        isplitl [Hg]; · iexact Hg
        iapply (ring_started c (V m c main_v1) (stepAt t.val) hs); iexact HR
    · have hs : 1 ≤ stepAt t.val := by unfold stepAt; omega
      have c1 : ¬cFirst (grid0.coords t) := fun h => h1 ((cFirst_iff t).mp h)
      by_cases h2 : t.val < 45
      · have hs' : stepAt t.val + 1 < 16 := by unfold stepAt; omega
        refine (run_next c t (tabM t) (tabM_whole t) (outM t) (outM_whole t) addM (Memref.isWhole_whole _) c0 c1 ((cMore_iff t).mpr h2) c3 c4 c5
          (table m c) (V m c main_v1)).within iprop(∃ r, prngReg c r) ?_ ?_
        · iintro ⟨⟨HS, Hg, HR⟩, H0, H1⟩
          isplitr [Hg]; swap; · iexact Hg
          isplitl [H0]; · iexact H0
          isplitl [H1]; · iexact H1
          isplitl [HS]; · iexact HS
          iapply (ring_here c (V m c main_v1) (stepAt t.val) hs hs'); iexact HR
        · iintro ⟨⟨H0, H1, HS, HR⟩, Hg⟩
          isplitr [H0 H1]; swap
          · isplitl [H0]; · iexact H0
            iexact H1
          isplitl [HS]; · iexact HS
          isplitl [Hg]; · iexact Hg
          iapply (ring_next c (V m c main_v1) (stepAt t.val) hs hs'); iexact HR
      · have hs' : stepAt t.val + 1 = 16 := by unfold stepAt; omega
        refine (run_last c t (tabM t) (tabM_whole t) (outM t) (outM_whole t) addM (Memref.isWhole_whole _) c0 c1 (fun h => h2 ((cMore_iff t).mp h)) c3 c4 c5
          (table m c) (V m c main_v1)).within
          iprop((∃ r, prngReg c r) ∗ Ring.kept (cellP c) (slotW c (V m c main_v1)) (landed c (V m c main_v1)) (Ring.sl 2 (stepAt t.val + 1)) (Ring.bk 16 (stepAt t.val - 1))) ?_ ?_
        · iintro ⟨⟨HS, Hg, HR⟩, H0, H1⟩
          ihave HR' := (ring_here_last c (V m c main_v1) (stepAt t.val) hs hs') $$ HR
          icases HR' with ⟨HF, HK⟩
          isplitr [Hg HK]; swap
          · isplitl [Hg]; · iexact Hg
            iexact HK
          isplitl [H0]; · iexact H0
          isplitl [H1]; · iexact H1
          isplitl [HS]; · iexact HS
          iexact HF
        · iintro ⟨⟨H0, H1, HS, HF⟩, Hg, HK⟩
          isplitr [H0 H1]; swap
          · isplitl [H0]; · iexact H0
            iexact H1
          isplitl [HS]; · iexact HS
          isplitl [Hg]; · iexact Hg
          iapply (ring_next_last c (V m c main_v1) (stepAt t.val) hs hs')
          isplitl [HK]; · iexact HK
          iexact HF
  · have c0 : ¬cStep (grid0.coords t) := fun h => h0 ((cStep_iff t).mp h)
    have c3 : ¬cA0 (grid0.coords t) := fun h => h0 ((cA0_iff t).mp h)
    have e : stepAt (t.val + 1) = stepAt t.val := by unfold stepAt; omega
    rw [if_neg h0, show t.val / 3 = stepAt t.val - 1 by unfold stepAt; omega, e]
    obtain ⟨R, hR, hR'⟩ := ring_kept c (V m c main_v1) (stepAt t.val) (by unfold stepAt; omega) (by unfold stepAt; omega)
    have into : ∀ O : sProp 𝕄, iprop((owns (c : Thread nD τ) addM fullShare (offsAt m c t.val) ∗ (∃ r, prngReg c r) ∗ ringAt c (V m c main_v1) (stepAt t.val))
          ∗ owns (c : Thread nD τ) (tabM t) fullShare (table m c) ∗ O)
        ⊢ iprop((owns (c : Thread nD τ) (tabM t) fullShare (table m c) ∗ O ∗ owns (c : Thread nD τ) addM fullShare (offsAt m c t.val)
          ∗ Ring.kept (cellP c) (slotW c (V m c main_v1)) (landed c (V m c main_v1)) (Ring.sl 2 (stepAt t.val + 1)) (Ring.bk 16 (stepAt t.val - 1)))
          ∗ (∃ r, prngReg c r) ∗ R) := fun O => by
      iintro ⟨⟨HS, Hg, HR⟩, H0, H1⟩
      ihave HR' := hR $$ HR
      icases HR' with ⟨HK, HR⟩
      isplitr [Hg HR]; swap
      · isplitl [Hg]; · iexact Hg
        iexact HR
      isplitl [H0]; · iexact H0
      isplitl [H1]; · iexact H1
      isplitl [HS]; · iexact HS
      iexact HK
    have back : ∀ O : sProp 𝕄, iprop((owns (c : Thread nD τ) (tabM t) fullShare (table m c) ∗ O ∗ owns (c : Thread nD τ) addM fullShare (offsAt m c t.val)
          ∗ Ring.kept (cellP c) (slotW c (V m c main_v1)) (landed c (V m c main_v1)) (Ring.sl 2 (stepAt t.val + 1)) (Ring.bk 16 (stepAt t.val - 1)))
          ∗ (∃ r, prngReg c r) ∗ R)
        ⊢ iprop((owns (c : Thread nD τ) addM fullShare (offsAt m c t.val) ∗ (∃ r, prngReg c r) ∗ ringAt c (V m c main_v1) (stepAt t.val))
          ∗ owns (c : Thread nD τ) (tabM t) fullShare (table m c) ∗ O) := fun O => by
      iintro ⟨⟨H0, H1, HS, HK⟩, Hg, HR⟩
      isplitr [H0 H1]; swap
      · isplitl [H0]; · iexact H0
        iexact H1
      isplitl [HS]; · iexact HS
      isplitl [Hg]; · iexact Hg
      iapply hR'
      isplitl [HK]; · iexact HK
      iexact HR
    by_cases h1 : t.val % 3 = 1
    · rw [if_neg (show ¬(t.val + 1) % 3 = 0 by omega), offsAt_succ m c t.val (by omega), show anchorAt t.val = 1 from Fin.ext h1]
      exact (run_second c t (tabM t) (tabM_whole t) (outM t) (outM_whole t) addM (Memref.isWhole_whole _) c0 c3 ((cA1_iff t).mpr h1)
        (fun h => by have := (cA2_iff t).mp h; omega) (table m c) (offsAt m c t.val) (V m c main_v1)).within _ (into _) (back _)
    · have h2 : t.val % 3 = 2 := by omega
      rw [if_pos (show (t.val + 1) % 3 = 0 by omega), show anchorAt t.val = 2 from Fin.ext h2]
      refine (run_third c t (tabM t) (tabM_whole t) (outM t) (outM_whole t) addM (Memref.isWhole_whole _) c0 c3 (fun h => h1 ((cA1_iff t).mp h))
        ((cA2_iff t).mpr h2) (table m c) (offsAt m c t.val) (V m c main_v1)).within _ (into _) ((back _).trans ?_)
      iintro ⟨⟨HS, HR⟩, H⟩
      isplitr [H]; swap; · iexact H
      isplitl [HS]; · iexists _; iexact HS
      iexact HR

end Cert.KernelIdeal.Decode

end
-- ==== Proof.Ideal.Launch.lean ====
/- The launch: the pipeline's proof data, the run of `main`, and what a core's memory holds at the end of it. -/
module

public import proofs.«01_k».proof.Proof.Ideal.Step

@[expose] public section

set_option maxRecDepth 16384

noncomputable section

namespace Cert.KernelIdeal.Decode

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-! ## The proof data -/

/-- The pipeline's proof data: the arrays as the host lines leave them, the table's block kept in place, the result's block
    the point's, and the invariant between points. -/
def dats (_ : Fin 1) (c : Dev nD) : Dat τ (Elt F) Unit ℕ (UD sig nD τ) ℕ cfg0 c where
  A w := V m c (Pipeline.arrRef spec0 w)
  after w t := match w with
    | ⟨0, _⟩ => iblk m c 0 t
    | ⟨1, _⟩ => blockAt m c t.val
  Φ t := inv m c t.val
  q _ := fullShare
  owed _ := 0

theorem A_eq (c : Dev nD) (w : Fin cfg0.W) : (dats m 0 c).A w = V m c (Pipeline.arrRef spec0 w) := by dsimp only [dats]
theorem Φ_start (c : Dev nD) (t : Fin cfg0.N) : (dats m 0 c).Φ t.castSucc = inv m c t.val := by
  dsimp only [dats]; simp only [Fin.val_castSucc]
theorem Φ_end (c : Dev nD) (t : Fin cfg0.N) : (dats m 0 c).Φ t.succ = inv m c (t.val + 1) := by
  dsimp only [dats]; simp only [Fin.val_succ]
theorem after_table (c : Dev nD) (t : Fin cfg0.N) : (dats m 0 c).after 0 t = iblk m c 0 t := by dsimp only [dats]
theorem after_result (c : Dev nD) (t : Fin cfg0.N) : (dats m 0 c).after 1 t = blockAt m c t.val := by dsimp only [dats]

/-- Every point decodes some anchor, so the result's window is idle at none. -/
theorem result_live : ∀ t : Fin cfg0.N, cfg0.idle 1 (grid0.coords t) = false := by decide +kernel

/-! ## The body's obligation -/

set_option maxHeartbeats 1000000 in
/-- The body at any point, over the proof data. -/
theorem body_triple (c : Dev nD) (t : Fin cfg0.N) :
    iprop((dats m 0 c).Φ t.castSucc ∗ (dats m 0 c).owesAt () t.castSucc
      ∗ (∃ d, owns (c : Thread nD τ) (tabM t) fullShare ((dats m 0 c).before 0 t d)) ∗ (∃ d, owns (c : Thread nD τ) (outM t) fullShare ((dats m 0 c).before 1 t d)))
    ⊢ wp frame (wpE (defs₀ (F := F)) Variants.none c none) Set.univ (bodyAt0 t)
      (fun _ => iprop((dats m 0 c).Φ t.succ ∗ (dats m 0 c).owesAt () t.succ ∗ (dats m 0 c).leavesExact 0 t ∗ (dats m 0 c).leavesExact 1 t)) := by
  rw [show (dats m 0 c).leavesExact 0 t = owns (c : Thread nD τ) (tabM t) fullShare (table m c) from by
      unfold Dat.leavesExact; rw [show cfg0.idle 0 (grid0.coords t) = false from rfl, after_table, table_eq],
    show (dats m 0 c).leavesExact 1 t = owns (c : Thread nD τ) (outM t) fullShare (blockAt m c t.val) from by
      unfold Dat.leavesExact; rw [result_live t, after_result],
    Φ_start m c t, Φ_end m c t]
  simp only [table_before m (dats m 0 c) (A_eq m c 0) (after_table m c) t, table_eq]
  unfold bodyAt0 Dat.owesAt Pipeline.owesWithin
  rw [show (dats m 0 c).owed t.castSucc = 0 from rfl, show (dats m 0 c).owed t.succ = 0 from rfl]
  iintro ⟨HI, ⟨%W, -, HW⟩, ⟨%d0, H0⟩, ⟨%d1, H1⟩⟩
  iapply (step m c t W _)
  isplitl [HI H0 H1]
  · isplitl [HI]; · iexact HI
    isplitl [H0]; · iexact H0
    iexists _; iexact H1
  isplitl [HW]; · iexact HW
  iintro ⟨⟨HI, H0, H1⟩, ⟨%W', HW'⟩⟩
  isplitl [HI]; · iexact HI
  isplitl [HW']
  · iexists W'; isplitr
    · ipureintro; exact fun _ _ => Or.inl trivial
    iexact HW'
  isplitl [H0]; · iexact H0
  iexact H1

theorem body_row (t : Fin cfg0.N) : (defs₀ (F := F)) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_triple m c t) rfl .rfl fun _ => .rfl

/-- What the launch hands over is the invariant before the first point; -/
theorem launch_in (c : Dev nD) : Pipeline.ΦD cells spec0 xRefs (V m) c ⊢ (dats m 0 c).Φ 0 := by
  rw [launch_eq, show (dats m 0 c).Φ 0 = inv m c 0 from rfl]
  unfold inv addAt
  rw [show stepAt 0 = 0 from rfl, if_pos (show 0 % 3 = 0 from rfl)]
  iintro ⟨⟨HR, HS⟩, Hg, Hq, Hx⟩
  isplitl [HS]; · iexact HS
  isplitl [Hg]; · iexact Hg
  iapply (ring_in (F := F) m c)
  isplitl [HR]; · iexact HR
  isplitl [Hq]; · iexact Hq
  iexact Hx
/-- and the invariant after the last point gives it back. -/
theorem launch_out (c : Dev nD) : (dats m 0 c).Φ (Fin.last cfg0.N) ⊢ Pipeline.ΦD cells spec0 xRefs (V m) c := by
  rw [launch_eq, show (dats m 0 c).Φ (Fin.last cfg0.N) = inv m c grid0.N from rfl]
  unfold inv addAt
  rw [show stepAt grid0.N = 16 by rw [N_0]; rfl, if_pos (show grid0.N % 3 = 0 by rw [N_0])]
  iintro ⟨HS, Hg, HR⟩
  ihave HX := (ring_out (F := F) m c) $$ HR
  icases HX with ⟨HR, Hq, Hx⟩
  isplitl [HR HS]
  · isplitl [HR]; · iexact HR
    iexact HS
  isplitl [Hg]; · iexact Hg
  isplitl [Hq]; · iexact Hq
  iexact Hx

/-! ## The run -/

set_option backward.isDefEq.respectTransparency.types false in
set_option maxHeartbeats 800000 in
/-- `main` runs to an end where every array holds what the proof data says, every other buffer what the host lines leave in
    it, and every semaphore is at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 cells defs₀ Variants.none cells_own xRefs xRefs_sub m ρ main
    (hbody := fun c => (body_obligation m c).loose) (hshare := fun c => (dats m 0 c).share_full fun _ => rfl) (howed := fun _ _ => rfl)
    (V₀ := V0 m) (opss := [hostOps1]) (hsub := tail_avoids_x) (hfresh := sfx_fresh) (hkeep := sfx_keeps)
    (hmain := main_around m Variants.none) (hA := A_eq m) (hin := launch_in m) (hout := launch_out m)

/-- The kernel's result array on core `c` when every block is written back. -/
def resultArray (c : Dev nD) : Vec F S85x32x12288 .f32 := (dats m 0 c).arrAt 1 cfg0.N

/-- The host line after the kernel leaves an argument alone. -/
theorem arg_after (c : Dev nD) (b : Ref sig .tc) (h : b ≠ main_v37) (h' : ∀ w, Pipeline.arrRef spec0 w ≠ b) (hV : V m c b = m ((c : Thread nD τ).loc b)) :
    Pipeline.afterTail₀ cfgs (dats m) 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.unary_writes, Finset.mem_singleton]
      exact StableHlo.devRef_ne_of_ne h)),
    Pipeline.withArrays_of_ne _ c (V0 m c) _ b h']
  exact hV
/-- It leaves the result array, its axes turned, in `main`'s result. -/
theorem result_after (c : Dev nD) : Pipeline.afterTail₀ cfgs (dats m) 0 (V0 m) [hostOps1] c main_v37
    = transpose S32x12288x85 [1, 2, 0] (resultArray m c) transposes_S85x32x12288_S32x12288x85_1_2_0 := by
  unfold Pipeline.afterTail₀
  simp only [hostOps1, List.flatten_cons, List.flatten_nil, List.append_nil, StableHlo.after_cons, StableHlo.after_nil]
  rw [StableHlo.unary_result]
  exact congrArg (fun X => transpose S32x12288x85 [1, 2, 0] X transposes_S85x32x12288_S32x12288x85_1_2_0)
    (Pipeline.withArrays_arr spec0 launch0.win.arr_inj c (V0 m c) (fun w => (dats m 0 c).arrAt w cfg0.N) 1)

/-- THE RUN'S END: on every core `main`'s result is the result array with its axes turned, the two arguments are as they
    were, and every semaphore is at zero. -/
theorem run_ends : θ_run defs (onTc (τ := τ) (main (F := F))) ⟨m, fun _ => 0, ρ⟩ (fun r => (∀ c : Dev nD,
      r.2.mem ((c.tc : Thread nD τ).loc main_v37) = transpose S32x12288x85 [1, 2, 0] (resultArray m c) transposes_S85x32x12288_S32x12288x85_1_2_0
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c =>
    ⟨((h.1 c).2 main_v37 (Pipeline.mem_restRefs_of main_v37 (by decide) (by decide))).trans (result_after m c),
     ((h.1 c).2 main_arg0 (Pipeline.mem_restRefs_of main_arg0 (by decide) (by decide))).trans (arg_after m c main_arg0 (by decide) (by decide) (V_main_arg0 m c)),
     ((h.1 c).2 main_arg1 (Pipeline.mem_restRefs_of main_arg1 (by decide) (by decide))).trans (arg_after m c main_arg1 (by decide) (by decide) (V_main_arg1 m c))⟩, h.2⟩)
    (run_main m ρ)

end Cert.KernelIdeal.Decode

end
-- ==== Proof.Ideal.Array.lean ====
/- The array that the launch leaves: which grid point writes which of its elements, and what a point reads. -/
module

public import proofs.«01_k».proof.Proof.Ideal.Launch

public import Idealize.ShloMosaic.Lib.Pointwise
public import Idealize.ShloMosaic.Lib.Pipeline.ValueKit

@[expose] public section

set_option maxRecDepth 16384

noncomputable section

namespace Cert.KernelIdeal.Decode

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ)

/-- The grid point that writes the result array's element at batch element `b` and position `p`. -/
def pointOf (b p : ℕ) : ℕ := 24 * (b / 16) + 3 * (p / 512 % 8) + p / 4096

/-- The result array, each element off the block of the point that writes it. -/
def resultOf (c : Dev nD) : Vec F S85x32x12288 .f32 := fun i =>
  blockAt m c (pointOf (i 1).val (i 2).val) (ix3 (i 0) (⟨(i 1).val % 16, Nat.mod_lt _ (by decide)⟩ : Fin 16) (⟨(i 2).val % 512, Nat.mod_lt _ (by decide)⟩ : Fin 512))

/-- Where the block of each point lies, counted in blocks. -/
theorem block_index : ∀ t : Fin grid0.N, (fun a => (win0_1.index t) a) = ![0, t.val / 24, (t.val % 3) * 8 + t.val / 3 % 8] := by decide +kernel

/-- An element inside the block of point `t` belongs to `t`. -/
theorem pointOf_at (t y1 y2 : ℕ) (h : t < 48) (h1 : y1 < 16) (h2 : y2 < 512) : pointOf (16 * (t / 24) + y1) (512 * ((t % 3) * 8 + t / 3 % 8) + y2) = t := by
  have d1 : (16 * (t / 24) + y1) / 16 = t / 24 := by omega
  generalize hn : (t % 3) * 8 + t / 3 % 8 = n
  have d2 : (512 * n + y2) / 512 = n := by omega
  have d3 : (512 * n + y2) / 4096 = n / 8 := by omega
  have d4 : n % 8 = t / 3 % 8 := by omega
  have d5 : n / 8 = t % 3 := by omega
  unfold pointOf
  rw [d1, d2, d3, d4, d5]
  omega

/-- The launch leaves `resultOf`: the blocks of its points cover the array. -/
theorem resultArray_eq (c : Dev nD) : resultArray m c = resultOf m c := by
  unfold resultArray
  refine (dats m 0 c).arrAt_eq_of_covers 1 (resultOf m c) (by decide +kernel) (fun t _ y => ?_)
  rw [after_result]
  have hN : t.val < 48 := lt_of_lt_of_eq t.isLt (show cfg0.N = 48 from N_0)
  have e := block_index t
  have e0 : win0_1.index t 0 = 0 := congrFun e 0
  have e1 : win0_1.index t 1 = t.val / 24 := congrFun e 1
  have e2 : win0_1.index t 2 = (t.val % 3) * 8 + t.val / 3 % 8 := congrFun e 2
  have y0 : (y 0).val < 85 := (y 0).isLt
  have y1 : (y 1).val < 16 := (y 1).isLt
  have y2 : (y 2).val < 512 := (y 2).isLt
  have v0 : (((cfg0.win 1).blk t).view.emb y 0).val = (y 0).val := by show win0_1.index t 0 * 85 + 1 * (y 0).val = _; omega
  have v1 : (((cfg0.win 1).blk t).view.emb y 1).val = 16 * (t.val / 24) + (y 1).val := by show win0_1.index t 1 * 16 + 1 * (y 1).val = _; omega
  have v2 : (((cfg0.win 1).blk t).view.emb y 2).val = 512 * ((t.val % 3) * 8 + t.val / 3 % 8) + (y 2).val := by show win0_1.index t 2 * 512 + 1 * (y 2).val = _; omega
  show blockAt m c t.val ((cfg0.win 1).xinj (cfg0.grid.coords t) y) = blockAt m c _ _
  congr 1
  · rw [v1, v2]; exact (pointOf_at t.val _ _ hN y1 y2).symm
  · funext i
    match i with
    | 0 => exact Fin.ext v0.symm
    | 1 => refine Fin.ext ?_; show (y 1).val = _ % 16; rw [v1]; omega
    | 2 => refine Fin.ext ?_; show (y 2).val = _ % 512; rw [v2]; omega

/-- The input block of point `k`, element by element off the whole input array. -/
theorem xAt_at (c : Dev nD) (k : ℕ) (h : k < 48) (b : Fin 16) (p : Fin 512) (l : Fin 255) :
    xAt m c k (ix3 b p l) = (V m c main_v1 : Vec F S32x4096x255 .f32) (ix3 ⟨16 * (k / 24) + b.val, by omega⟩ ⟨512 * (k / 3 % 8) + p.val, by omega⟩ l) := by
  have e : (Ring.bk 16 (k / 3)).val = k / 3 := Ring.bk_val (by omega)
  refine congrArg (V m c main_v1 : Vec F S32x4096x255 .f32) (funext fun a : Fin 3 => ?_)
  match a with
  | 0 => refine Fin.ext ?_; show 16 * ((Ring.bk 16 (k / 3)).val / 8) + 1 * b.val = 16 * (k / 24) + b.val; omega
  | 1 => refine Fin.ext ?_; show 512 * ((Ring.bk 16 (k / 3)).val % 8) + 1 * p.val = 512 * (k / 3 % 8) + p.val; omega
  | 2 => refine Fin.ext ?_; show 0 + 1 * l.val = l.val; omega

/-- The constant table that a point reads is the host's whole table. -/
theorem table_at (c : Dev nD) (j : S6x1x255.Idx) : table m c j = (V m c main_v35 : Vec F S6x1x255 .f32) j := by
  refine congrArg (V m c main_v35 : Vec F S6x1x255 .f32) (funext fun a : Fin 3 => ?_)
  match a with
  | 0 => refine Fin.ext ?_; show 0 * 6 + 1 * (j 0).val = (j 0).val; omega
  | 1 => refine Fin.ext ?_; show 0 * 1 + 1 * (j 1).val = (j 1).val; omega
  | 2 => refine Fin.ext ?_; show 0 * 255 + 1 * (j 2).val = (j 2).val; omega
end Cert.KernelIdeal.Decode
end
-- ==== Proof.Ideal.Table.lean ====
/- The host's constant table: its six rows of three times 85 lanes, written by setting columns, and their values over the
   extended reals. -/
module

public import proofs.«01_k».proof.Proof.Ideal.Array

public import Idealize.ShloMosaic.Lib.StableHlo.ReadAt
public import Idealize.ShloMosaic.Lib.Routing.OpsSet
public import Idealize.ShloMosaic.Lib.IdealHost

@[expose] public section

set_option maxRecDepth 16384

noncomputable section

namespace Cert.KernelIdeal.Decode

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-- Update `(p, q)` of a write of a pair of columns at column 1 or 3 lands at row `p`, `q` columns further. -/
theorem lands_pair : ∀ (k : Fin 2) (p : Fin 3) (q : Fin 2), (scatter_S3x85_S1_S3x2_01_n_1_0).resultIdx? (ix2 p q) (fun _ => (BitVec.ofNat 32 (1 + 2 * k.val) : BitVec 32)) = some (ix2 p (⟨1 + 2 * k.val + q.val, by omega⟩ : Fin 85)) := by decide +kernel

/-- Update `p` of a write of one column at column 1 or 2 lands at row `p` of it. -/
theorem lands_one : ∀ (k : Fin 2) (p : Fin 3), (scatter_S3x85_S1_S3_0_1_1_0).resultIdx? (ix1 p) (fun _ => (BitVec.ofNat 32 (1 + k.val) : BitVec 32)) = some (ix2 p (⟨1 + k.val, by omega⟩ : Fin 85)) := by decide +kernel

/-- A table of three rows after a pair of its columns was set: the pair there, the old table elsewhere. -/
theorem set_pair {α : Type} (k : Fin 2) (x : S3x85.Idx → α) (idx : IVec S1 32) (hi : idx = fun _ => BitVec.ofNat 32 (1 + 2 * k.val)) (upd : S3x2.Idx → α) (a : Fin 3) (l : Fin 85) :
    Host.scatter scatter_S3x85_S1_S3x2_01_n_1_0 (fun _ b => b) x idx upd (ix2 a l)
      = if h : 1 + 2 * k.val ≤ l.val ∧ l.val < 3 + 2 * k.val then upd (ix2 a (⟨l.val - (1 + 2 * k.val), by omega⟩ : Fin 2)) else x (ix2 a l) := by
  subst hi
  have key : ∀ j : S3x2.Idx, (scatter_S3x85_S1_S3x2_01_n_1_0).resultIdx? j (fun _ => BitVec.ofNat 32 (1 + 2 * k.val)) = some (ix2 a l) ↔ (j 0).val = a.val ∧ 1 + 2 * k.val + (j 1).val = l.val := by
    intro j
    obtain ⟨p, q, rfl⟩ : ∃ (p : Fin 3) (q : Fin 2), j = ix2 p q := ⟨j 0, j 1, funext fun i => by match i with | 0 => rfl | 1 => rfl⟩
    rw [lands_pair k p q, Option.some.injEq]
    refine ⟨fun h => ⟨congrArg Fin.val (congrFun h 0), congrArg Fin.val (congrFun h 1)⟩, fun h => funext fun i => ?_⟩
    match i with
    | 0 => exact Fin.ext h.1
    | 1 => exact Fin.ext h.2
  by_cases h : 1 + 2 * k.val ≤ l.val ∧ l.val < 3 + 2 * k.val
  · rw [dif_pos h]
    refine Routing.scatter_set_hit _ x _ upd _ _ (fun j hj => congrArg upd (funext fun i => ?_)) (ix2 a (⟨l.val - (1 + 2 * k.val), by omega⟩ : Fin 2)) ((key _).2 ⟨rfl, ?_⟩)
    · have e := (key j).1 hj
      match i with
      | 0 => exact Fin.ext e.1
      | 1 => exact Fin.ext (by show (j 1).val = l.val - (1 + 2 * k.val); omega)
    · show 1 + 2 * k.val + (l.val - (1 + 2 * k.val)) = l.val; omega
  · rw [dif_neg h]
    refine Routing.scatter_set_miss _ x _ upd _ fun j hj => h ?_
    have e := (key j).1 hj
    have : (j 1).val < 2 := (j 1).isLt
    omega

/-- The same after one column was set. -/
theorem set_one {α : Type} (k : Fin 2) (x : S3x85.Idx → α) (idx : IVec S1 32) (hi : idx = fun _ => BitVec.ofNat 32 (1 + k.val)) (upd : S3.Idx → α) (a : Fin 3) (l : Fin 85) :
    Host.scatter scatter_S3x85_S1_S3_0_1_1_0 (fun _ b => b) x idx upd (ix2 a l) = if l.val = 1 + k.val then upd (ix1 a) else x (ix2 a l) := by
  subst hi
  have key : ∀ j : S3.Idx, (scatter_S3x85_S1_S3_0_1_1_0).resultIdx? j (fun _ => BitVec.ofNat 32 (1 + k.val)) = some (ix2 a l) ↔ (j 0).val = a.val ∧ 1 + k.val = l.val := by
    intro j
    obtain ⟨p, rfl⟩ : ∃ p : Fin 3, j = ix1 p := ⟨j 0, funext fun i => by match i with | 0 => rfl⟩
    rw [lands_one k p, Option.some.injEq]
    refine ⟨fun h => ⟨congrArg Fin.val (congrFun h 0), congrArg Fin.val (congrFun h 1)⟩, fun h => funext fun i => ?_⟩
    match i with
    | 0 => exact Fin.ext h.1
    | 1 => exact Fin.ext h.2
  split
  · next h =>
    refine Routing.scatter_set_hit _ x _ upd _ _ (fun j hj => congrArg upd (funext fun i => ?_)) (ix1 a) ((key _).2 ⟨rfl, h.symm⟩)
    match i with
    | 0 => exact Fin.ext ((key j).1 hj).1
  · next h => exact Routing.scatter_set_miss _ x _ upd _ fun j hj => h ((key j).1 hj).2.symm

/-- Three rows of 85 lanes that hold the constant `w`, -/
abbrev allLanes (w : BitVec 32) : FVec F S3x85 .f32 := broadcastInDim S3x85 ![] bcast_S_S3x85 (constant S_ .f32 w)
/-- two columns of it, -/
abbrev twoLanes (w : BitVec 32) : FVec F S3x2 .f32 := broadcastInDim S3x2 ![] bcast_S_S3x2 (constant S_ .f32 w)
/-- one column of it, -/
abbrev oneLane (w : BitVec 32) : FVec F S3 .f32 := broadcastInDim S3 ![] bcast_S_S3 (constant S_ .f32 w)
/-- and the column number at which they are set. -/
abbrev column (w : BitVec 32) : IVec S1 32 := broadcastInDim S1 ![] bcast_S_S1 (constantI S_ 32 w)

/-- `x` with the two columns from `w` on set to `u`, -/
def setTwo (x : FVec F S3x85 .f32) (w : BitVec 32) (u : FVec F S3x2 .f32) : FVec F S3x85 .f32 :=
  Host.scatter scatter_S3x85_S1_S3x2_01_n_1_0 (fun _ b => b) x (column w) u
/-- and with column `w` set to `u`. -/
def setOne (x : FVec F S3x85 .f32) (w : BitVec 32) (u : FVec F S3 .f32) : FVec F S3x85 .f32 :=
  Host.scatter scatter_S3x85_S1_S3_0_1_1_0 (fun _ b => b) x (column w) u

/-- The pair set at column 3, the pair set at column 1 and the one column set at 1 and at 2, each read at a lane. -/
theorem setTwo_three (x : FVec F S3x85 .f32) (u : FVec F S3x2 .f32) (a : Fin 3) (l : Fin 85) :
    setTwo x 3#32 u (ix2 a l) = if h : 3 ≤ l.val ∧ l.val < 5 then u (ix2 a (⟨l.val - 3, by omega⟩ : Fin 2)) else x (ix2 a l) := set_pair 1 x (column 3#32) rfl u a l
theorem setTwo_one (x : FVec F S3x85 .f32) (u : FVec F S3x2 .f32) (a : Fin 3) (l : Fin 85) :
    setTwo x 1#32 u (ix2 a l) = if h : 1 ≤ l.val ∧ l.val < 3 then u (ix2 a (⟨l.val - 1, by omega⟩ : Fin 2)) else x (ix2 a l) := set_pair 0 x (column 1#32) rfl u a l
theorem setOne_one (x : FVec F S3x85 .f32) (u : FVec F S3 .f32) (a : Fin 3) (l : Fin 85) :
    setOne x 1#32 u (ix2 a l) = if l.val = 1 then u (ix1 a) else x (ix2 a l) := set_one 0 x (column 1#32) rfl u a l
theorem setOne_two (x : FVec F S3x85 .f32) (u : FVec F S3 .f32) (a : Fin 3) (l : Fin 85) :
    setOne x 2#32 u (ix2 a l) = if l.val = 2 then u (ix1 a) else x (ix2 a l) := set_one 1 x (column 2#32) rfl u a l

/-- The lanes of the box's width and height: one there, zero elsewhere. -/
def sizeLanes : FVec F S3x85 .f32 := setTwo (allLanes 0#32) 3#32 (twoLanes 0x3F800000#32)

/-- The table's six rows, anchor by anchor. -/
def tableRow (anchors : FVec F S3x2 .f32) : Fin 6 → FVec F S3x85 .f32
  | 0 => subf (mulf (allLanes 0x40000000#32) sizeLanes) (allLanes 0x3F800000#32)
  | 1 => sizeLanes
  | 2 => setTwo (setTwo (allLanes 0x3F800000#32) 1#32 (twoLanes 0x3E000000#32)) 3#32 (twoLanes 0x3F800000#32)
  | 3 => setTwo (allLanes 0#32) 3#32 anchors
  | 4 => setOne (allLanes 0#32) 1#32 (oneLane 0x41000000#32)
  | 5 => setOne (allLanes 0#32) 2#32 (oneLane 0x41000000#32)

variable (m : (ℓ : Loc nD τ sig) → Buf (Elt F) ℓ)

/-- Lane `l` of anchor `a` among the 255 lanes. -/
abbrev laneOf (a : Fin 3) (l : Fin 85) : Fin 255 := ⟨85 * a.val + l.val, by omega⟩

/-- The anchor and the lane back from the number among the 255. -/
theorem laneOf_div (a : Fin 3) (l : Fin 85) (h : (85 * a.val + l.val) / 85 < 3) : (⟨(85 * a.val + l.val) / 85, h⟩ : Fin 3) = a := Fin.ext (by show _ / 85 = _; omega)
theorem laneOf_mod (a : Fin 3) (l : Fin 85) (h : (85 * a.val + l.val) % 85 < 85) : (⟨(85 * a.val + l.val) % 85, h⟩ : Fin 85) = l := Fin.ext (by show _ % 85 = _; omega)

/-- A lane of the host's table is that lane of its row. -/
theorem table_row (c : Dev nD) (r : Fin 6) (a : Fin 3) (l : Fin 85) :
    (V m c main_v35 : Vec F S6x1x255 .f32) (ix3 r (0 : Fin 1) (laneOf a l)) = tableRow (m (c.tc.loc main_arg1) : Vec F S3x2 .f32) r (ix2 a l) := by
  unfold V V0
  simp only [List.flatten_cons, List.flatten_nil, List.append_nil]
  fin_cases r <;> (after_reads_at; after_reads_simp; pointwise; rw [laneOf_div, laneOf_mod]; rfl)

/-- The constants of the two programs over the extended reals. -/
theorem two_lit : Ideal.ofBits .f32 0x40000000#32 = ((2 : ℝ) : EReal) := by simp [Ideal.ofBits, Ideal.ieee, -EReal.coe_mul]; norm_num
theorem eight_lit : Ideal.ofBits .f32 0x41000000#32 = ((8 : ℝ) : EReal) := by simp [Ideal.ofBits, Ideal.ieee, -EReal.coe_mul]; norm_num
theorem eighth_lit : Ideal.ofBits .f32 0x3E000000#32 = ((1 / 8 : ℝ) : EReal) := by simp [Ideal.ofBits, Ideal.ieee, -EReal.coe_mul]; norm_num

/-- The lanes of the width and the height over the extended reals. -/
theorem size_lane (a : Fin 3) (l : Fin 85) : sizeLanes (F := Ideal) (ix2 a l) = if 3 ≤ l.val ∧ l.val < 5 then 1 else 0 := by
  unfold sizeLanes
  rw [setTwo_three]
  by_cases h : 3 ≤ l.val ∧ l.val < 5
  · rw [if_pos h, dif_pos h]; pointwise
  · rw [if_neg h, dif_neg h]; pointwise

/-- The sign lane: plus one where the box's width and height are, minus one elsewhere. -/
theorem sign_lane (x : FVec Ideal S3x2 .f32) (a : Fin 3) (l : Fin 85) : tableRow x 0 (ix2 a l) = if 3 ≤ l.val ∧ l.val < 5 then 1 else -1 := by
  show Ideal.ofBits .f32 0x40000000#32 * sizeLanes (F := Ideal) (ix2 a l) - Ideal.ofBits .f32 0x3F800000#32 = _
  rw [size_lane, two_lit, Ideal.ofBits_one_f32]
  by_cases h : 3 ≤ l.val ∧ l.val < 5
  · rw [if_pos h, if_pos h, mul_one, ← EReal.coe_one, ← EReal.coe_sub]; norm_num
  · rw [if_neg h, if_neg h, mul_zero, zero_sub]

/-- The scale lane: an eighth where the box's position is, one elsewhere. -/
theorem scale_lane (x : FVec Ideal S3x2 .f32) (a : Fin 3) (l : Fin 85) : tableRow x 2 (ix2 a l) = if 1 ≤ l.val ∧ l.val < 3 then ((1 / 8 : ℝ) : EReal) else 1 := by
  show setTwo _ _ _ (ix2 a l) = _
  rw [setTwo_three]
  by_cases h : 3 ≤ l.val ∧ l.val < 5
  · rw [dif_pos h, if_neg (by omega)]; pointwise
  · rw [dif_neg h, setTwo_one]
    by_cases h' : 1 ≤ l.val ∧ l.val < 3
    · rw [dif_pos h', if_pos h']; pointwise; exact eighth_lit
    · rw [dif_neg h', if_neg h']; pointwise

/-- The anchor lane: the anchor's width and height where they are, zero elsewhere. -/
theorem anchor_lane (x : FVec Ideal S3x2 .f32) (a : Fin 3) (l : Fin 85) :
    tableRow x 3 (ix2 a l) = if h : 3 ≤ l.val ∧ l.val < 5 then x (ix2 a (⟨l.val - 3, by omega⟩ : Fin 2)) else 0 := by
  show setTwo _ _ _ (ix2 a l) = _
  rw [setTwo_three]
  by_cases h : 3 ≤ l.val ∧ l.val < 5
  · rw [dif_pos h, dif_pos h]
  · rw [dif_neg h, dif_neg h]; pointwise

/-- The stride in the lane of the cell's row, zero in the others, -/
theorem stride_lane_row (x : FVec Ideal S3x2 .f32) (a : Fin 3) (l : Fin 85) : tableRow x 4 (ix2 a l) = if l.val = 1 then ((8 : ℝ) : EReal) else 0 := by
  show setOne _ _ _ (ix2 a l) = _
  rw [setOne_one]
  by_cases h : l.val = 1
  · rw [if_pos h, if_pos h]; pointwise; exact eight_lit
  · rw [if_neg h, if_neg h]; pointwise

/-- and in the lane of the cell's column. -/
theorem stride_lane_column (x : FVec Ideal S3x2 .f32) (a : Fin 3) (l : Fin 85) : tableRow x 5 (ix2 a l) = if l.val = 2 then ((8 : ℝ) : EReal) else 0 := by
  show setOne _ _ _ (ix2 a l) = _
  rw [setOne_two]
  by_cases h : l.val = 2
  · rw [if_pos h, if_pos h]; pointwise; exact eight_lit
  · rw [if_neg h, if_neg h]; pointwise

end Cert.KernelIdeal.Decode

end
-- ==== Proof.Ideal.Cell.lean ====
/- One element of the result over the extended reals: the element of the input it is made of, and the lanes of the table. -/
module

public import proofs.«01_k».proof.Proof.Ideal.Table

@[expose] public section

set_option maxRecDepth 16384

noncomputable section

namespace Cert.KernelIdeal.Decode

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-- A row of the table at an anchor's lanes, and a row of the block, element by element. -/
theorem lane_at (T : Vec F S6x1x255 .f32) (r : Fin 6) (a : Fin 3) (l : Fin 85) : lane T r a (ix3 (0 : Fin 1) (0 : Fin 1) l) = T (ix3 r (0 : Fin 1) (laneOf a l)) := by
  refine congrArg T (funext fun i : Fin 3 => ?_)
  match i with
  | 0 => exact Fin.ext (by show r.val + 1 * 0 = r.val; omega)
  | 1 => rfl
  | 2 => exact Fin.ext (by show 85 * a.val + 1 * l.val = 85 * a.val + l.val; omega)
theorem xRow_at (X : Vec F S16x512x255 .f32) (b : Fin 16) (a : Fin 3) (p : Fin 512) (l : Fin 85) : xRow X b a (ix3 (0 : Fin 1) p l) = X (ix3 b p (laneOf a l)) := by
  refine congrArg X (funext fun i : Fin 3 => ?_)
  match i with
  | 0 => exact Fin.ext (by show b.val + 1 * 0 = b.val; omega)
  | 1 => exact Fin.ext (by show 0 + 1 * p.val = p.val; omega)
  | 2 => exact Fin.ext (by show 85 * a.val + 1 * l.val = 85 * a.val + l.val; omega)

/-- The offsets at a cell and a lane: the cell's row `p / 64` past the block's first row, times the lane of row 4 of the table,
    plus the cell's column `p % 64` times the lane of row 5. -/
theorem offsets_at (T : Vec Ideal S6x1x255 .f32) (h0 : BitVec 32) (p : Fin 512) (l : Fin 85) :
    offsets T h0 (ix2 p l)
      = FloatOps.sitofp (F := Ideal) .f32 (IntOp.addi (BitVec.ofNat 32 (p.val / 64)) h0) * T (ix3 (4 : Fin 6) (0 : Fin 1) (laneOf 0 l))
        + FloatOps.sitofp (F := Ideal) .f32 (BitVec.ofNat 32 (p.val % 64)) * T (ix3 (5 : Fin 6) (0 : Fin 1) (laneOf 0 l)) := by
  unfold offsets
  pointwise [k0_pay1, k0_pay5, k0_pay6, k0_pay7, lane_at]
  refine congrArg₂ (fun s t => FloatOps.sitofp (F := Ideal) .f32 (IntOp.addi s h0) * T (ix3 (4 : Fin 6) (0 : Fin 1) (laneOf 0 l)) + FloatOps.sitofp (F := Ideal) .f32 t * T (ix3 (5 : Fin 6) (0 : Fin 1) (laneOf 0 l))) ?_ ?_
  · clear l; revert p; decide +kernel
  · clear l; revert p; decide +kernel

/-- The block at an element: over the input's element `v`, the anchor's lanes and the offset. -/
theorem block_value (T : Vec Ideal S6x1x255 .f32) (add : Vec Ideal S512x85 .f32) (X : Vec Ideal S16x512x255 .f32) (a : Fin 3) (l : Fin 85) (b : Fin 16) (p : Fin 512) :
    block T add X a (ix3 l b p)
      = (if T (ix3 (1 : Fin 6) (0 : Fin 1) (laneOf a l)) ≠ 0
          then Ideal.exp (X (ix3 b p (laneOf a l)) * T (ix3 (0 : Fin 6) (0 : Fin 1) (laneOf a l))) * T (ix3 (3 : Fin 6) (0 : Fin 1) (laneOf a l))
          else Ideal.div 1 (Ideal.exp (X (ix3 b p (laneOf a l)) * T (ix3 (0 : Fin 6) (0 : Fin 1) (laneOf a l))) * T (ix3 (2 : Fin 6) (0 : Fin 1) (laneOf a l))
            + T (ix3 (2 : Fin 6) (0 : Fin 1) (laneOf a l)))) + add (ix2 p l) := by
  unfold block decoded
  pointwise [k0_pay41, k0_pay37, k0_pay38, k0_pay39, k0_pay40, lane_at, xRow_at]

/-- The first row of a block, as a whole number, plus a row within the block. -/
theorem row_word : ∀ (q r : Fin 8), IntOp.addi (BitVec.ofNat 32 q.val) (Scalar.muli (BitVec.ofNat 32 r.val) 8#32) = BitVec.ofNat 32 (8 * r.val + q.val) := by decide +kernel

variable (m : (ℓ : Loc nD τ sig) → Buf (Elt Ideal) ℓ)

/-- The host's reordered input is the input itself, position `p` being cell `(p / 64, p % 64)`. -/
theorem input_at (c : Dev nD) (b : Fin 32) (p : Fin 4096) (l : Fin 255) :
    (V m c main_v1 : Vec Ideal S32x4096x255 .f32) (ix3 b p l)
      = (m (c.tc.loc main_arg0) : Vec Ideal S32x255x64x64 .f32) (ix4 b l (⟨p.val / 64, by omega⟩ : Fin 64) (⟨p.val % 64, by omega⟩ : Fin 64)) := by
  unfold V V0
  simp only [List.flatten_cons, List.flatten_nil, List.append_nil]
  after_reads_at

/-- A lane of the table that a point reads. -/
theorem table_lane (c : Dev nD) (r : Fin 6) (a : Fin 3) (l : Fin 85) :
    table m c (ix3 r (0 : Fin 1) (laneOf a l)) = tableRow (F := Ideal) (m (c.tc.loc main_arg1) : Vec Ideal S3x2 .f32) r (ix2 a l) := (table_at m c _).trans (table_row m c r a l)

/-- What the kernel makes of the element `v` of the input at lane `l` of anchor `a` in the cell at row `i` and column `j`. -/
def cell (anchors : FVec Ideal S3x2 .f32) (a : Fin 3) (l : Fin 85) (i j : ℕ) (v : EReal) : EReal :=
  (if tableRow anchors 1 (ix2 a l) ≠ 0 then Ideal.exp (v * tableRow anchors 0 (ix2 a l)) * tableRow anchors 3 (ix2 a l)
    else Ideal.div 1 (Ideal.exp (v * tableRow anchors 0 (ix2 a l)) * tableRow anchors 2 (ix2 a l) + tableRow anchors 2 (ix2 a l)))
  + (FloatOps.sitofp (F := Ideal) .f32 (BitVec.ofNat 32 i) * tableRow anchors 4 (ix2 0 l) + FloatOps.sitofp (F := Ideal) .f32 (BitVec.ofNat 32 j) * tableRow anchors 5 (ix2 0 l))

/-- The block of point `k` at an element. -/
theorem blockAt_value (c : Dev nD) (k : ℕ) (h : k < 48) (l : Fin 85) (b : Fin 16) (p : Fin 512) :
    blockAt m c k (ix3 l b p)
      = cell (m (c.tc.loc main_arg1) : Vec Ideal S3x2 .f32) (anchorAt k) l (8 * (k / 3 % 8) + p.val / 64) (p.val % 64)
          ((m (c.tc.loc main_arg0) : Vec Ideal S32x255x64x64 .f32) (ix4 (⟨16 * (k / 24) + b.val, by omega⟩ : Fin 32) (laneOf (anchorAt k) l)
            (⟨8 * (k / 3 % 8) + p.val / 64, by omega⟩ : Fin 64) (⟨p.val % 64, by omega⟩ : Fin 64))) := by
  unfold blockAt offsAt
  rw [block_value, offsets_at, xAt_at m c k h, input_at]
  simp only [table_lane]
  rw [row_word ⟨p.val / 64, by omega⟩ ⟨k / 3 % 8, by omega⟩]
  unfold cell
  have e1 : (512 * (k / 3 % 8) + p.val) / 64 = 8 * (k / 3 % 8) + p.val / 64 := by omega
  have e2 : (512 * (k / 3 % 8) + p.val) % 64 = p.val % 64 := by omega
  simp only [e1, e2]

end Cert.KernelIdeal.Decode

end
-- ==== Proof.Ideal.Equation.lean ====
/- The decoder in plain mathematics over the extended reals, and the equation: what the kernel makes of an element of the
   input is what the decoder makes of it. -/
module

public import proofs.«01_k».proof.Proof.Ideal.Cell

@[expose] public section

set_option maxRecDepth 16384

noncomputable section

namespace Cert.KernelIdeal.Decode

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-- The logistic function. -/
def sigmoid (v : EReal) : EReal := Ideal.div 1 (1 + Ideal.exp (-v))

/-- The decoder on the element `v` at lane `l` of an anchor of width `w 0` and height `w 1`, in the cell at row `i` and column
    `j`: the position is the logistic function's value past the cell's corner, in strides of 8; width and height are the
    anchor's times an exponential; confidence and classes are logistic values. -/
def plain (w : Fin 2 → EReal) (l : Fin 85) (i j : ℕ) (v : EReal) : EReal :=
  if l.val < 1 then sigmoid v
  else if l.val < 3 then (sigmoid v + FloatOps.sitofp (F := Ideal) .f32 (BitVec.ofNat 32 (if l.val = 1 then i else j))) * ((8 : ℝ) : EReal)
  else if h : l.val < 5 then Ideal.exp v * Ideal.div (w ⟨l.val - 3, by omega⟩) ((8 : ℝ) : EReal) * ((8 : ℝ) : EReal)
  else sigmoid v

/-- An exponential is infinite or a real number that is not negative. -/
theorem exp_cases (u : EReal) : Ideal.exp u = ⊤ ∨ ∃ s : ℝ, 0 ≤ s ∧ Ideal.exp u = (s : EReal) := by
  induction u with
  | bot => exact Or.inr ⟨0, le_refl _, by simp⟩
  | top => exact Or.inl (by simp)
  | coe r => exact Or.inr ⟨Real.exp r, (Real.exp_pos r).le, by simp⟩

theorem one_over_top : Ideal.div 1 ⊤ = 0 := by
  unfold Ideal.div
  rw [if_neg (by simp), EReal.inv_top, mul_zero]

/-- A logistic value is a real number. -/
theorem sigmoid_real (v : EReal) : ∃ r : ℝ, sigmoid v = (r : EReal) := by
  unfold sigmoid
  rcases exp_cases (-v) with h | ⟨s, hs, h⟩
  · exact ⟨0, by rw [h, ← EReal.coe_one, EReal.coe_add_top, EReal.coe_one, one_over_top, EReal.coe_zero]⟩
  · refine ⟨1 / (1 + s), ?_⟩
    rw [h, ← EReal.coe_one, ← EReal.coe_add, Ideal.div_coe (by positivity), ← EReal.coe_mul, one_mul]

/-- The stride taken into the quotient: one over an eighth of the denominator is eight times the logistic value. -/
theorem scaled_sigmoid (v : EReal) :
    Ideal.div 1 (Ideal.exp (-v) * ((1 / 8 : ℝ) : EReal) + ((1 / 8 : ℝ) : EReal)) = sigmoid v * ((8 : ℝ) : EReal) := by
  unfold sigmoid
  rcases exp_cases (-v) with h | ⟨s, hs, h⟩
  · rw [h, EReal.top_mul_coe_of_pos (by norm_num), EReal.top_add_coe, ← EReal.coe_one, EReal.coe_add_top, EReal.coe_one, one_over_top, zero_mul]
  · rw [h, ← EReal.coe_one, ← EReal.coe_mul, ← EReal.coe_add, ← EReal.coe_add, Ideal.div_coe (by positivity), Ideal.div_coe (by positivity), ← EReal.coe_mul,
      ← EReal.coe_mul, ← EReal.coe_mul]
    congr 1
    field_simp
    ring

/-- A whole number that the programs turn into a float is a real number. -/
theorem sitofp_real (w : BitVec 32) : ∃ r : ℝ, FloatOps.sitofp (F := Ideal) .f32 w = (r : EReal) := ⟨(w.toInt : ℝ), rfl⟩

/-- The position: eight times a logistic value past eight times the cell's coordinate. -/
theorem position (v : EReal) (w : BitVec 32) :
    (sigmoid v + FloatOps.sitofp (F := Ideal) .f32 w) * ((8 : ℝ) : EReal)
      = sigmoid v * ((8 : ℝ) : EReal) + FloatOps.sitofp (F := Ideal) .f32 w * ((8 : ℝ) : EReal) := by
  obtain ⟨r, hr⟩ := sigmoid_real v
  obtain ⟨s, hs⟩ := sitofp_real w
  rw [hr, hs]
  exact_mod_cast add_mul r s 8

/-- Dividing an anchor by the stride and multiplying by it again changes nothing. -/
theorem anchor_scaled (e a : EReal) : e * Ideal.div a ((8 : ℝ) : EReal) * ((8 : ℝ) : EReal) = e * a := by
  rw [Ideal.div_coe (by norm_num), mul_assoc, mul_assoc, ← EReal.coe_mul]
  norm_num

/-- The kernel's element is the decoder's. -/
theorem cell_eq (anchors : FVec Ideal S3x2 .f32) (a : Fin 3) (l : Fin 85) (i j : ℕ) (v : EReal) :
    cell anchors a l i j v = plain (fun q => anchors (ix2 a q)) l i j v := by
  have hl := l.isLt
  have h1 : tableRow anchors 1 (ix2 a l) = if 3 ≤ l.val ∧ l.val < 5 then (1 : EReal) else 0 := size_lane a l
  unfold cell plain
  rw [h1, sign_lane, scale_lane, anchor_lane, stride_lane_row, stride_lane_column]
  by_cases c0 : l.val < 1
  · rw [if_pos c0]
    simp only [show ¬(3 ≤ l.val ∧ l.val < 5) by omega, show ¬(1 ≤ l.val ∧ l.val < 3) by omega, show ¬l.val = 1 by omega, show ¬l.val = 2 by omega, if_false, dite_false,
      ne_eq, not_true_eq_false, mul_zero, add_zero, mul_one, mul_neg]
    rw [add_comm (Ideal.exp (-v)) 1]
    rfl
  · rw [if_neg c0]
    by_cases c1 : l.val < 3
    · rw [if_pos c1, position]
      simp only [show ¬(3 ≤ l.val ∧ l.val < 5) by omega, show (1 ≤ l.val ∧ l.val < 3) by omega, if_false, dite_false, if_true, and_self,
        ne_eq, not_true_eq_false, mul_zero, mul_one, mul_neg, scaled_sigmoid]
      by_cases c2 : l.val = 1
      · simp only [c2, if_true, show ¬((1 : ℕ) = 2) by omega, if_false, mul_zero, add_zero]
      · simp only [show l.val = 2 by omega, if_true, show ¬((2 : ℕ) = 1) by omega, if_false, mul_zero, zero_add]
    · rw [if_neg c1]
      by_cases c3 : l.val < 5
      · rw [dif_pos c3, anchor_scaled]
        simp only [show (3 ≤ l.val ∧ l.val < 5) from ⟨by omega, c3⟩, show ¬l.val = 1 by omega, show ¬l.val = 2 by omega, if_true, if_false, dite_true, and_self,
          ne_eq, one_ne_zero, not_false_eq_true, mul_zero, add_zero, mul_one]
      · rw [dif_neg c3]
        simp only [show ¬(3 ≤ l.val ∧ l.val < 5) by omega, show ¬(1 ≤ l.val ∧ l.val < 3) by omega, show ¬l.val = 1 by omega, show ¬l.val = 2 by omega, if_false, dite_false,
          ne_eq, not_true_eq_false, mul_zero, add_zero, mul_one, mul_neg]
        rw [add_comm (Ideal.exp (-v)) 1]
        rfl

end Cert.KernelIdeal.Decode

end
-- ==== Proof.Ideal.Result.lean ====
/- The kernel's result over the extended reals, element by element: the decoder on the element of the input it is made of. -/
module

public import proofs.«01_k».proof.Proof.Ideal.Equation

@[expose] public section

set_option maxRecDepth 16384

noncomputable section

namespace Cert.KernelIdeal.Decode

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt Ideal) ℓ)

/-- The decoder's result at batch element `b`, position `p` and lane `l`, over the input `x` and the anchors `w`: position `p`
    is anchor `p / 4096` in the cell at row `p / 64 % 64` and column `p % 64`. -/
def decode (x : FVec Ideal S32x255x64x64 .f32) (w : FVec Ideal S3x2 .f32) (b : Fin 32) (p : Fin 12288) (l : Fin 85) : EReal :=
  plain (fun q => w (ix2 (⟨p.val / 4096, by omega⟩ : Fin 3) q)) l (p.val / 64 % 64) (p.val % 64)
    (x (ix4 b (laneOf (⟨p.val / 4096, by omega⟩ : Fin 3) l) (⟨p.val / 64 % 64, by omega⟩ : Fin 64) (⟨p.val % 64, by omega⟩ : Fin 64)))

/-- The array that the launch leaves, at an element. -/
theorem resultArray_value (c : Dev nD) (b : Fin 32) (p : Fin 12288) (l : Fin 85) :
    resultArray m c (ix3 l b p) = decode (m (c.tc.loc main_arg0)) (m (c.tc.loc main_arg1)) b p l := by
  have hb := b.isLt
  have hp := p.isLt
  have d : pointOf b.val p.val = 24 * (b.val / 16) + 3 * (p.val / 512 % 8) + p.val / 4096 := rfl
  have k0 : pointOf b.val p.val < 48 := by omega
  have k1 : pointOf b.val p.val / 24 = b.val / 16 := by omega
  have k4 : pointOf b.val p.val / 3 = 8 * (b.val / 16) + p.val / 512 % 8 := by omega
  have k2 : pointOf b.val p.val / 3 % 8 = p.val / 512 % 8 := by omega
  have k3 : anchorAt (pointOf b.val p.val) = (⟨p.val / 4096, by omega⟩ : Fin 3) := Fin.ext (by show pointOf b.val p.val % 3 = p.val / 4096; omega)
  have r1 : 16 * (b.val / 16) + b.val % 16 = b.val := by omega
  have r2 : 8 * (p.val / 512 % 8) + p.val % 512 / 64 = p.val / 64 % 64 := by omega
  have r3 : p.val % 512 % 64 = p.val % 64 := by omega
  rw [resultArray_eq]
  show blockAt m c (pointOf b.val p.val) (ix3 l (⟨b.val % 16, Nat.mod_lt _ (by decide)⟩ : Fin 16) (⟨p.val % 512, Nat.mod_lt _ (by decide)⟩ : Fin 512)) = _
  rw [blockAt_value m c _ k0, cell_eq]
  unfold decode
  simp only [k1, k2, k3, r1, r2, r3]

/-- The program's result: the array with its lanes moved last. -/
theorem result_value (c : Dev nD) (b : Fin 32) (p : Fin 12288) (l : Fin 85) :
    (transpose S32x12288x85 [1, 2, 0] (resultArray m c) transposes_S85x32x12288_S32x12288x85_1_2_0 : Vec Ideal S32x12288x85 .f32) (ix3 b p l)
      = decode (m (c.tc.loc main_arg0)) (m (c.tc.loc main_arg1)) b p l := by
  rw [← resultArray_value]
  pointwise

end Cert.KernelIdeal.Decode

end
-- ==== Proof.Reference.lean ====
/- What the reference computes, element by element: the decoder. -/
module

public import proofs.«01_k».proof.Proof.Ideal.Result
public import proofs.«01_k».proof.Proof.Gen.ReferenceIdeal.Run
public import Idealize.ShloMosaic.Lib.Tactic.CleanTypes

@[expose] public section

set_option maxRecDepth 16384

noncomputable section

namespace Cert.ReferenceIdeal.Decode

open Cert.ReferenceIdeal Cert.ReferenceIdeal.Gen Idealize.ShloMosaic Idealize.ShloMosaic.TcCoe Idealize.ShloMosaic.Tactic Idealize.SL.Sem Idealize.ShloMosaic.StableHlo
open Cert.KernelIdeal.Decode (decode plain sigmoid eight_lit laneOf)

/-- The four pieces that the reference joins along the lanes are the four cases of the decoder. -/
theorem pieces (x : FVec Ideal S32x255x64x64 .f32) (w : FVec Ideal S3x2 .f32) (b : Fin 32) (p : Fin 12288) (l : Fin 85) :
    decode x w b p l =
    (if h : l.val < 1 then Ideal.div 1 (1 + Ideal.exp (-x (ix4 b (⟨p.val / 4096 * 85 + l.val, by omega⟩ : Fin 255) (⟨p.val / 64 % 64, by omega⟩ : Fin 64) (⟨p.val % 64, by omega⟩ : Fin 64))))
    else if h : l.val - 1 < 2 then
        (Ideal.div 1 (1 + Ideal.exp (-x (ix4 b (⟨p.val / 4096 * 85 + (1 + (l.val - 1)), by omega⟩ : Fin 255) (⟨p.val / 64 % 64, by omega⟩ : Fin 64) (⟨p.val % 64, by omega⟩ : Fin 64)))) +
            FloatOps.sitofp (F := Ideal) .f32 (if h : l.val - 1 < 1 then BitVec.ofNat 32 (p.val / 64 % 64) else BitVec.ofNat 32 (p.val % 64))) *
          Ideal.ofBits .f32 1090519040#32
    else if h : l.val - 1 - 2 < 2 then
          Ideal.exp (x (ix4 b (⟨p.val / 4096 * 85 + (3 + (l.val - 1 - 2)), by omega⟩ : Fin 255) (⟨p.val / 64 % 64, by omega⟩ : Fin 64) (⟨p.val % 64, by omega⟩ : Fin 64))) *
              Ideal.div (w (ix2 (⟨p.val / 4096, by omega⟩ : Fin 3) (⟨l.val - 1 - 2, by omega⟩ : Fin 2))) (Ideal.ofBits .f32 1090519040#32) *
            Ideal.ofBits .f32 1090519040#32
        else
          Ideal.div 1
            (1 + Ideal.exp (-x (ix4 b (⟨p.val / 4096 * 85 + (5 + (l.val - 1 - 2 - 2)), by omega⟩ : Fin 255) (⟨p.val / 64 % 64, by omega⟩ : Fin 64) (⟨p.val % 64, by omega⟩ : Fin 64))))) := by
  have hl := l.isLt
  have e0 : p.val / 4096 * 85 = 85 * (p.val / 4096) := Nat.mul_comm _ _
  unfold decode plain sigmoid laneOf
  rw [eight_lit]
  by_cases c0 : l.val < 1
  · rw [if_pos c0, dif_pos c0]
    simp only [e0]
  · rw [if_neg c0, dif_neg c0]
    by_cases c1 : l.val < 3
    · rw [if_pos c1, dif_pos (show l.val - 1 < 2 by omega)]
      simp only [e0, show 1 + (l.val - 1) = l.val by omega]
      by_cases c2 : l.val = 1
      · rw [if_pos c2, dif_pos (show l.val - 1 < 1 by omega)]
      · rw [if_neg c2, dif_neg (show ¬l.val - 1 < 1 by omega)]
    · rw [if_neg c1, dif_neg (show ¬l.val - 1 < 2 by omega)]
      by_cases c3 : l.val < 5
      · rw [dif_pos c3, dif_pos (show l.val - 1 - 2 < 2 by omega)]
        simp only [e0, show l.val - 1 - 2 = l.val - 3 by omega, show 3 + (l.val - 3) = l.val by omega]
      · rw [dif_neg c3, dif_neg (show ¬l.val - 1 - 2 < 2 by omega)]
        simp only [e0, show 5 + (l.val - 1 - 2 - 2) = l.val by omega]

/-- The reference runs to its end and leaves the decoder's result, and its arguments as they were. -/
theorem run_decode (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (b : Fin 32) (p : Fin 12288) (l : Fin 85), (r.2.mem ((c.tc : Thread nD τ).loc main_v46) : Vec Ideal S32x12288x85 .f32) (ix3 b p l)
        = decode (m ((c.tc : Thread nD τ).loc main_arg0)) (m ((c.tc : Thread nD τ).loc main_arg1)) b p l)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, (h c).2⟩) (Cert.ReferenceIdeal.Value.run m ρ)
  intro b p l
  rw [(h c).1, pieces]
  clear h
  generalize (m ((c.tc : Thread nD τ).loc main_arg0)) = x
  generalize (m ((c.tc : Thread nD τ).loc main_arg1)) = w
  clean_types
  pointwise

end Cert.ReferenceIdeal.Decode

end
-- ==== Proof.lean ====
/- The five claims: each of the three programs runs to its end without fault, leaves its arguments and every semaphore counter as
   they were; the ideal program is the kernel over the extended reals; and over them kernel and reference compute the same. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Ideal.Result
public import proofs.«01_k».proof.Proof.Reference

@[expose] public section

set_option maxRecDepth 16384

noncomputable section

namespace Cert.Proof

open Idealize.ShloMosaic Idealize.ShloMosaic.TcCoe Idealize.SL.Sem

variable {F : FTy → Type} [FloatOps F]

/-- The kernel and its ideal program have the same launches, -/
theorem bodies_same : @KernelIdeal.defs₀ F _ KernelIdeal.Gen.facts = @Kernel.defs₀ F _ Kernel.Gen.facts :=
  congrArg (Defs.onTc (Val := Elt F) (nD := KernelIdeal.nD) (τ := KernelIdeal.τ) (sig := KernelIdeal.sig) (Λ := @KernelIdeal.Λ₀ KernelIdeal.Gen.facts)) (funext fun l => match l with
    | ⟨0, _⟩ => rfl)
/-- pipelined in the same way. -/
theorem defs_same : @KernelIdeal.defs F _ KernelIdeal.Gen.facts = @Kernel.defs F _ Kernel.Gen.facts := congrArg (Pipeline.defs KernelIdeal.pcfgs) bodies_same

/-- The kernel over float words: it ends, with its arguments and the counters as they were. -/
theorem kernel_frame : @quiescent_Kernel Kernel.Gen.facts := fun m g _ => by
  rw [← defs_same]
  exact (θ_run _ _ _).mono (fun r h => ⟨fun c => (h.1 c).2, h.2⟩) (KernelIdeal.Decode.run_ends (F := Bits) m g)

/-- The ideal program likewise, -/
theorem ideal_frame : @quiescent_KernelIdeal KernelIdeal.Gen.facts := fun m g _ =>
  (θ_run _ _ _).mono (fun r h => ⟨fun c => (h.1 c).2, h.2⟩) (KernelIdeal.Decode.run_ends (F := Ideal) m g)

/-- and the reference. -/
theorem reference_frame : @quiescent_ReferenceIdeal ReferenceIdeal.Gen.facts := fun m g _ =>
  (θ_run _ _ _).mono (fun r h => ⟨fun c => (h c).2, sem_eq_zero_of_no_sems (by decide) r.2⟩) (ReferenceIdeal.Value.run m g)

/-- Kernel and reference leave the same array: the decoder's. -/
theorem same_result : @algebraic_KernelIdeal_ReferenceIdeal KernelIdeal.Gen.facts ReferenceIdeal.Gen.facts := by
  intro m g m' g' _ hargs
  refine ⟨_, (θ_run _ _ _).mono (fun r h c => h.1 c) (KernelIdeal.Decode.run_ends (F := Ideal) m g),
    (θ_run _ _ _).mono (fun r h c => ⟨?_, (h c).2⟩) (ReferenceIdeal.Decode.run_decode m' g')⟩
  funext y
  obtain ⟨b, p, l, rfl⟩ : ∃ (b : Fin 32) (p : Fin 12288) (l : Fin 85), y = ix3 b p l := ⟨y 0, y 1, y 2, funext fun i => by match i with | 0 => rfl | 1 => rfl | 2 => rfl⟩
  refine ((h c).1 b p l).trans ?_
  rw [(hargs c).1, (hargs c).2]
  exact (KernelIdeal.Decode.result_value m c b p l).symm

/-- All five claims. -/
theorem claim : Cert.Claim :=
  ⟨Kernel.Gen.facts, KernelIdeal.Gen.facts, ReferenceIdeal.Gen.facts, kernel_frame, ideal_frame, reference_frame, trivial, same_result⟩

end Cert.Proof

end
